-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S2x64x2048 : Shape := ⟨3, ![2, 64, 2048]⟩
abbrev S2 : Shape := ⟨1, ![2]⟩
abbrev S_ : Shape := ⟨0, ![]⟩
abbrev S256x256 : Shape := ⟨2, ![256, 256]⟩
abbrev S1 : Shape := ⟨1, ![1]⟩
abbrev S1x64x2048 : Shape := ⟨3, ![1, 64, 2048]⟩
abbrev S64x2048 : Shape := ⟨2, ![64, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S2x64x2048, .f32⟩
  | .local _ .vmem, ⟨4, _⟩ => ⟨S2x64x2048, .f32⟩
  | .local _ .vmem, ⟨5, _⟩ => ⟨S2x64x2048, .f32⟩
  | .local _ .vmem, ⟨6, _⟩ => ⟨S2x64x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v30 : BitVec 32 := Scalar.muli v2 c256_i32
  let v31 : Index := Scalar.indexCast v30
  let c0 : Index := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_21 : BitVec 32 := 256#32
  let v37 : BitVec 32 := Scalar.muli v2 c256_i32_21
  let v38 : Index := Scalar.indexCast v37
  let c0_22 : Index := 0#32
  ![v38.toNat, 0]
def k0_off3 (d0 : Dev nD) (c0_i32_23 : BitVec 32) (c0_i32_31 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v40 : BitVec 32 := Scalar.subi v2 c0_i32_23
  let c16_i32_24 : BitVec 32 := 16#32
  let c0_i32_25 : BitVec 32 := 0#32
  let v41 : BitVec 1 := Scalar.cmpi .eq c16_i32_24 c0_i32_25
  let c1_i32_26 : BitVec 32 := 1#32
  let v42 : BitVec 32 := Scalar.select v41 c1_i32_26 c16_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c256_i32_30 : BitVec 32 := 256#32
  let v51 : BitVec 32 := Scalar.muli v50 c256_i32_30
  let v52 : BitVec 32 := Scalar.addi v51 c0_i32_31
  let c0_i32_39 : BitVec 32 := 0#32
  ![v52.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v53 : BitVec 32 := Scalar.muli v24 c1_i32_35
  let v54 : BitVec 32 := Scalar.addi c0_i32_36 v53
  v54.toNat
def k0_off4 (d0 : Dev nD) (c0_i32_40 : BitVec 32) (c128_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.addi v2 c0_i32_40
  let c16_i32_41 : BitVec 32 := 16#32
  let c0_i32_42 : BitVec 32 := 0#32
  let v63 : BitVec 1 := Scalar.cmpi .eq c16_i32_41 c0_i32_42
  let c1_i32_43 : BitVec 32 := 1#32
  let v64 : BitVec 32 := Scalar.select v63 c1_i32_43 c16_i32_41
  let v65 : BitVec 32 := Scalar.remsi v62 v64
  let c0_i32_45 : BitVec 32 := 0#32
  let v67 : BitVec 1 := Scalar.cmpi .slt v65 c0_i32_45
  let c0_i32_46 : BitVec 32 := 0#32
  let v68 : BitVec 1 := Scalar.cmpi .slt v64 c0_i32_46
  let v69 : BitVec 1 := Scalar.xori v67 v68
  let c0_i32_44 : BitVec 32 := 0#32
  let v66 : BitVec 1 := Scalar.cmpi .ne v65 c0_i32_44
  let v70 : BitVec 1 := Scalar.andi v69 v66
  let v71 : BitVec 32 := Scalar.addi v65 v64
  let v72 : BitVec 32 := Scalar.select v70 v71 v65
  let c256_i32_47 : BitVec 32 := 256#32
  let v73 : BitVec 32 := Scalar.muli v72 c256_i32_47
  let v74 : BitVec 32 := Scalar.addi v73 c128_i32
  let c0_i32_55 : BitVec 32 := 0#32
  ![v74.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v75 : BitVec 32 := Scalar.muli v13 c1_i32_51
  let v76 : BitVec 32 := Scalar.addi c0_i32_52 v75
  v76.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v97 : BitVec 32 := Scalar.muli v24 c1_i32_67
  let v98 : BitVec 32 := Scalar.addi c0_i32_68 v97
  v98.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_83 : BitVec 32 := 1#32
  let v119 : BitVec 32 := Scalar.muli v13 c1_i32_83
  let v120 : BitVec 32 := Scalar.addi c0_i32_84 v119
  v120.toNat
def k0_off5 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v128 : BitVec 32 := Scalar.subi v2 c0_i32_88
  let c1_i32_89 : BitVec 32 := 1#32
  let v129 : BitVec 32 := Scalar.subi v128 c1_i32_89
  let c16_i32_90 : BitVec 32 := 16#32
  let c0_i32_91 : BitVec 32 := 0#32
  let v130 : BitVec 1 := Scalar.cmpi .eq c16_i32_90 c0_i32_91
  let c1_i32_92 : BitVec 32 := 1#32
  let v131 : BitVec 32 := Scalar.select v130 c1_i32_92 c16_i32_90
  let v132 : BitVec 32 := Scalar.remsi v129 v131
  let c0_i32_94 : BitVec 32 := 0#32
  let v134 : BitVec 1 := Scalar.cmpi .slt v132 c0_i32_94
  let c0_i32_95 : BitVec 32 := 0#32
  let v135 : BitVec 1 := Scalar.cmpi .slt v131 c0_i32_95
  let v136 : BitVec 1 := Scalar.xori v134 v135
  let c0_i32_93 : BitVec 32 := 0#32
  let v133 : BitVec 1 := Scalar.cmpi .ne v132 c0_i32_93
  let v137 : BitVec 1 := Scalar.andi v136 v133
  let v138 : BitVec 32 := Scalar.addi v132 v131
  let v139 : BitVec 32 := Scalar.select v137 v138 v132
  let c256_i32_96 : BitVec 32 := 256#32
  let v140 : BitVec 32 := Scalar.muli v139 c256_i32_96
  let v141 : Index := Scalar.indexCast v140
  let c0_97 : Index := 0#32
  ![v141.toNat, 0]
def k0_off6 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v128 : BitVec 32 := Scalar.subi v2 c0_i32_88
  let c1_i32_89 : BitVec 32 := 1#32
  let v129 : BitVec 32 := Scalar.subi v128 c1_i32_89
  let c16_i32_90 : BitVec 32 := 16#32
  let c0_i32_91 : BitVec 32 := 0#32
  let v130 : BitVec 1 := Scalar.cmpi .eq c16_i32_90 c0_i32_91
  let c1_i32_92 : BitVec 32 := 1#32
  let v131 : BitVec 32 := Scalar.select v130 c1_i32_92 c16_i32_90
  let v132 : BitVec 32 := Scalar.remsi v129 v131
  let c0_i32_94 : BitVec 32 := 0#32
  let v134 : BitVec 1 := Scalar.cmpi .slt v132 c0_i32_94
  let c0_i32_95 : BitVec 32 := 0#32
  let v135 : BitVec 1 := Scalar.cmpi .slt v131 c0_i32_95
  let v136 : BitVec 1 := Scalar.xori v134 v135
  let c0_i32_93 : BitVec 32 := 0#32
  let v133 : BitVec 1 := Scalar.cmpi .ne v132 c0_i32_93
  let v137 : BitVec 1 := Scalar.andi v136 v133
  let v138 : BitVec 32 := Scalar.addi v132 v131
  let v139 : BitVec 32 := Scalar.select v137 v138 v132
  let c256_i32_101 : BitVec 32 := 256#32
  let v147 : BitVec 32 := Scalar.muli v139 c256_i32_101
  let v148 : Index := Scalar.indexCast v147
  let c0_102 : Index := 0#32
  ![v148.toNat, 0]
def k0_off7 (d0 : Dev nD) (c0_i32_103 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v150 : BitVec 32 := Scalar.addi v2 c0_i32_103
  let c1_i32_104 : BitVec 32 := 1#32
  let v151 : BitVec 32 := Scalar.addi v150 c1_i32_104
  let c16_i32_105 : BitVec 32 := 16#32
  let c0_i32_106 : BitVec 32 := 0#32
  let v152 : BitVec 1 := Scalar.cmpi .eq c16_i32_105 c0_i32_106
  let c1_i32_107 : BitVec 32 := 1#32
  let v153 : BitVec 32 := Scalar.select v152 c1_i32_107 c16_i32_105
  let v154 : BitVec 32 := Scalar.remsi v151 v153
  let c0_i32_109 : BitVec 32 := 0#32
  let v156 : BitVec 1 := Scalar.cmpi .slt v154 c0_i32_109
  let c0_i32_110 : BitVec 32 := 0#32
  let v157 : BitVec 1 := Scalar.cmpi .slt v153 c0_i32_110
  let v158 : BitVec 1 := Scalar.xori v156 v157
  let c0_i32_108 : BitVec 32 := 0#32
  let v155 : BitVec 1 := Scalar.cmpi .ne v154 c0_i32_108
  let v159 : BitVec 1 := Scalar.andi v158 v155
  let v160 : BitVec 32 := Scalar.addi v154 v153
  let v161 : BitVec 32 := Scalar.select v159 v160 v154
  let c256_i32_111 : BitVec 32 := 256#32
  let v162 : BitVec 32 := Scalar.muli v161 c256_i32_111
  let v163 : Index := Scalar.indexCast v162
  let c0_112 : Index := 0#32
  ![v163.toNat, 0]
def k0_off8 (d0 : Dev nD) (c0_i32_103 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v150 : BitVec 32 := Scalar.addi v2 c0_i32_103
  let c1_i32_104 : BitVec 32 := 1#32
  let v151 : BitVec 32 := Scalar.addi v150 c1_i32_104
  let c16_i32_105 : BitVec 32 := 16#32
  let c0_i32_106 : BitVec 32 := 0#32
  let v152 : BitVec 1 := Scalar.cmpi .eq c16_i32_105 c0_i32_106
  let c1_i32_107 : BitVec 32 := 1#32
  let v153 : BitVec 32 := Scalar.select v152 c1_i32_107 c16_i32_105
  let v154 : BitVec 32 := Scalar.remsi v151 v153
  let c0_i32_109 : BitVec 32 := 0#32
  let v156 : BitVec 1 := Scalar.cmpi .slt v154 c0_i32_109
  let c0_i32_110 : BitVec 32 := 0#32
  let v157 : BitVec 1 := Scalar.cmpi .slt v153 c0_i32_110
  let v158 : BitVec 1 := Scalar.xori v156 v157
  let c0_i32_108 : BitVec 32 := 0#32
  let v155 : BitVec 1 := Scalar.cmpi .ne v154 c0_i32_108
  let v159 : BitVec 1 := Scalar.andi v158 v155
  let v160 : BitVec 32 := Scalar.addi v154 v153
  let v161 : BitVec 32 := Scalar.select v159 v160 v154
  let c256_i32_116 : BitVec 32 := 256#32
  let v169 : BitVec 32 := Scalar.muli v161 c256_i32_116
  let v170 : Index := Scalar.indexCast v169
  let c0_117 : Index := 0#32
  ![v170.toNat, 0]
def k0_off9 (d0 : Dev nD) (c0_i32_118 : BitVec 32) (c0_i32_135 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v172 : BitVec 32 := Scalar.subi v2 c0_i32_118
  let c1_i32_119 : BitVec 32 := 1#32
  let v173 : BitVec 32 := Scalar.subi v172 c1_i32_119
  let c16_i32_120 : BitVec 32 := 16#32
  let c0_i32_121 : BitVec 32 := 0#32
  let v174 : BitVec 1 := Scalar.cmpi .eq c16_i32_120 c0_i32_121
  let c1_i32_122 : BitVec 32 := 1#32
  let v175 : BitVec 32 := Scalar.select v174 c1_i32_122 c16_i32_120
  let v176 : BitVec 32 := Scalar.remsi v173 v175
  let c0_i32_124 : BitVec 32 := 0#32
  let v178 : BitVec 1 := Scalar.cmpi .slt v176 c0_i32_124
  let c0_i32_125 : BitVec 32 := 0#32
  let v179 : BitVec 1 := Scalar.cmpi .slt v175 c0_i32_125
  let v180 : BitVec 1 := Scalar.xori v178 v179
  let c0_i32_123 : BitVec 32 := 0#32
  let v177 : BitVec 1 := Scalar.cmpi .ne v176 c0_i32_123
  let v181 : BitVec 1 := Scalar.andi v180 v177
  let v182 : BitVec 32 := Scalar.addi v176 v175
  let v183 : BitVec 32 := Scalar.select v181 v182 v176
  let c256_i32_134 : BitVec 32 := 256#32
  let v191 : BitVec 32 := Scalar.muli v183 c256_i32_134
  let v192 : BitVec 32 := Scalar.addi v191 c0_i32_135
  let v193 : Index := Scalar.indexCast v192
  let c0_136 : Index := 0#32
  ![v193.toNat, 0]
def k0_dev7 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v203 : BitVec 32 := Scalar.muli v13 c1_i32_144
  let v204 : BitVec 32 := Scalar.addi c0_i32_145 v203
  v204.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_158 : BitVec 32 := 1#32
  let v218 : BitVec 32 := Scalar.muli v24 c1_i32_158
  let v219 : BitVec 32 := Scalar.addi c0_i32_159 v218
  v219.toNat
def k0_off10 (d0 : Dev nD) (c0_i32_163 : BitVec 32) (c128_i32_180 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v227 : BitVec 32 := Scalar.addi v2 c0_i32_163
  let c1_i32_164 : BitVec 32 := 1#32
  let v228 : BitVec 32 := Scalar.addi v227 c1_i32_164
  let c16_i32_165 : BitVec 32 := 16#32
  let c0_i32_166 : BitVec 32 := 0#32
  let v229 : BitVec 1 := Scalar.cmpi .eq c16_i32_165 c0_i32_166
  let c1_i32_167 : BitVec 32 := 1#32
  let v230 : BitVec 32 := Scalar.select v229 c1_i32_167 c16_i32_165
  let v231 : BitVec 32 := Scalar.remsi v228 v230
  let c0_i32_169 : BitVec 32 := 0#32
  let v233 : BitVec 1 := Scalar.cmpi .slt v231 c0_i32_169
  let c0_i32_170 : BitVec 32 := 0#32
  let v234 : BitVec 1 := Scalar.cmpi .slt v230 c0_i32_170
  let v235 : BitVec 1 := Scalar.xori v233 v234
  let c0_i32_168 : BitVec 32 := 0#32
  let v232 : BitVec 1 := Scalar.cmpi .ne v231 c0_i32_168
  let v236 : BitVec 1 := Scalar.andi v235 v232
  let v237 : BitVec 32 := Scalar.addi v231 v230
  let v238 : BitVec 32 := Scalar.select v236 v237 v231
  let c256_i32_179 : BitVec 32 := 256#32
  let v246 : BitVec 32 := Scalar.muli v238 c256_i32_179
  let v247 : BitVec 32 := Scalar.addi v246 c128_i32_180
  let v248 : Index := Scalar.indexCast v247
  let c0_181 : Index := 0#32
  ![v248.toNat, 0]
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_189 : BitVec 32 := 1#32
  let v258 : BitVec 32 := Scalar.muli v24 c1_i32_189
  let v259 : BitVec 32 := Scalar.addi c0_i32_190 v258
  v259.toNat
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_203 : BitVec 32 := 1#32
  let v273 : BitVec 32 := Scalar.muli v13 c1_i32_203
  let v274 : BitVec 32 := Scalar.addi c0_i32_204 v273
  v274.toNat
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_234 : BitVec 32 := 1#32
  let v313 : BitVec 32 := Scalar.muli v13 c1_i32_234
  let v314 : BitVec 32 := Scalar.addi c0_i32_235 v313
  v314.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_248 : BitVec 32 := 1#32
  let v328 : BitVec 32 := Scalar.muli v24 c1_i32_248
  let v329 : BitVec 32 := Scalar.addi c0_i32_249 v328
  v329.toNat
def k0_dev13 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_279 : BitVec 32 := 1#32
  let v368 : BitVec 32 := Scalar.muli v24 c1_i32_279
  let v369 : BitVec 32 := Scalar.addi c0_i32_280 v368
  v369.toNat
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_293 : BitVec 32 := 1#32
  let v383 : BitVec 32 := Scalar.muli v13 c1_i32_293
  let v384 : BitVec 32 := Scalar.addi c0_i32_294 v383
  v384.toNat
def k0_dev15 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v467 : BitVec 32 := Scalar.muli v13 c1_i32_353
  let v468 : BitVec 32 := Scalar.addi c0_i32_354 v467
  v468.toNat
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_376 : BitVec 32 := 1#32
  let v487 : BitVec 32 := Scalar.muli v24 c1_i32_376
  let v488 : BitVec 32 := Scalar.addi c0_i32_377 v487
  v488.toNat
def k0_dev17 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_407 : BitVec 32 := 1#32
  let v527 : BitVec 32 := Scalar.muli v24 c1_i32_407
  let v528 : BitVec 32 := Scalar.addi c0_i32_408 v527
  v528.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_430 : BitVec 32 := 1#32
  let v547 : BitVec 32 := Scalar.muli v13 c1_i32_430
  let v548 : BitVec 32 := Scalar.addi c0_i32_431 v547
  v548.toNat
def k0_dev19 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_461 : BitVec 32 := 1#32
  let v587 : BitVec 32 := Scalar.muli v13 c1_i32_461
  let v588 : BitVec 32 := Scalar.addi c0_i32_462 v587
  v588.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_484 : BitVec 32 := 1#32
  let v607 : BitVec 32 := Scalar.muli v24 c1_i32_484
  let v608 : BitVec 32 := Scalar.addi c0_i32_485 v607
  v608.toNat
def k0_dev21 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_515 : BitVec 32 := 1#32
  let v647 : BitVec 32 := Scalar.muli v24 c1_i32_515
  let v648 : BitVec 32 := Scalar.addi c0_i32_516 v647
  v648.toNat
def k0_dev22 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_538 : BitVec 32 := 1#32
  let v667 : BitVec 32 := Scalar.muli v13 c1_i32_538
  let v668 : BitVec 32 := Scalar.addi c0_i32_539 v667
  v668.toNat
def k0_dev23 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v751 : BitVec 32 := Scalar.muli v13 c1_i32_599
  let v752 : BitVec 32 := Scalar.addi c0_i32_600 v751
  v752.toNat
def k0_dev24 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_621 : BitVec 32 := 1#32
  let v771 : BitVec 32 := Scalar.muli v24 c1_i32_621
  let v772 : BitVec 32 := Scalar.addi c0_i32_622 v771
  v772.toNat
def k0_dev25 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_652 : BitVec 32 := 1#32
  let v811 : BitVec 32 := Scalar.muli v24 c1_i32_652
  let v812 : BitVec 32 := Scalar.addi c0_i32_653 v811
  v812.toNat
def k0_dev26 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_675 : BitVec 32 := 1#32
  let v831 : BitVec 32 := Scalar.muli v13 c1_i32_675
  let v832 : BitVec 32 := Scalar.addi c0_i32_676 v831
  v832.toNat
def k0_dev27 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_706 : BitVec 32 := 1#32
  let v871 : BitVec 32 := Scalar.muli v13 c1_i32_706
  let v872 : BitVec 32 := Scalar.addi c0_i32_707 v871
  v872.toNat
def k0_dev28 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_729 : BitVec 32 := 1#32
  let v891 : BitVec 32 := Scalar.muli v24 c1_i32_729
  let v892 : BitVec 32 := Scalar.addi c0_i32_730 v891
  v892.toNat
def k0_dev29 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_760 : BitVec 32 := 1#32
  let v931 : BitVec 32 := Scalar.muli v24 c1_i32_760
  let v932 : BitVec 32 := Scalar.addi c0_i32_761 v931
  v932.toNat
def k0_dev30 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_783 : BitVec 32 := 1#32
  let v951 : BitVec 32 := Scalar.muli v13 c1_i32_783
  let v952 : BitVec 32 := Scalar.addi c0_i32_784 v951
  v952.toNat
def k0_dev31 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_844 : BitVec 32 := 1#32
  let v1035 : BitVec 32 := Scalar.muli v13 c1_i32_844
  let v1036 : BitVec 32 := Scalar.addi c0_i32_845 v1035
  v1036.toNat
def k0_dev32 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_866 : BitVec 32 := 1#32
  let v1055 : BitVec 32 := Scalar.muli v24 c1_i32_866
  let v1056 : BitVec 32 := Scalar.addi c0_i32_867 v1055
  v1056.toNat
def k0_dev33 (d0 : Dev nD) : Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_897 : BitVec 32 := 1#32
  let v1095 : BitVec 32 := Scalar.muli v24 c1_i32_897
  let v1096 : BitVec 32 := Scalar.addi c0_i32_898 v1095
  v1096.toNat
def k0_dev34 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_920 : BitVec 32 := 1#32
  let v1115 : BitVec 32 := Scalar.muli v13 c1_i32_920
  let v1116 : BitVec 32 := Scalar.addi c0_i32_921 v1115
  v1116.toNat
def k0_dev35 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_951 : BitVec 32 := 1#32
  let v1155 : BitVec 32 := Scalar.muli v13 c1_i32_951
  let v1156 : BitVec 32 := Scalar.addi c0_i32_952 v1155
  v1156.toNat
def k0_dev36 (d0 : Dev nD) : Nat :=
  let c0_i32_975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_974 : BitVec 32 := 1#32
  let v1175 : BitVec 32 := Scalar.muli v24 c1_i32_974
  let v1176 : BitVec 32 := Scalar.addi c0_i32_975 v1175
  v1176.toNat
def k0_dev37 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1005 : BitVec 32 := 1#32
  let v1215 : BitVec 32 := Scalar.muli v24 c1_i32_1005
  let v1216 : BitVec 32 := Scalar.addi c0_i32_1006 v1215
  v1216.toNat
def k0_dev38 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1028 : BitVec 32 := 1#32
  let v1235 : BitVec 32 := Scalar.muli v13 c1_i32_1028
  let v1236 : BitVec 32 := Scalar.addi c0_i32_1029 v1235
  v1236.toNat
def k0_dev39 (d0 : Dev nD) : Nat :=
  let c0_i32_1090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1089 : BitVec 32 := 1#32
  let v1319 : BitVec 32 := Scalar.muli v13 c1_i32_1089
  let v1320 : BitVec 32 := Scalar.addi c0_i32_1090 v1319
  v1320.toNat
def k0_dev40 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1111 : BitVec 32 := 1#32
  let v1339 : BitVec 32 := Scalar.muli v24 c1_i32_1111
  let v1340 : BitVec 32 := Scalar.addi c0_i32_1112 v1339
  v1340.toNat
def k0_dev41 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1142 : BitVec 32 := 1#32
  let v1379 : BitVec 32 := Scalar.muli v24 c1_i32_1142
  let v1380 : BitVec 32 := Scalar.addi c0_i32_1143 v1379
  v1380.toNat
def k0_dev42 (d0 : Dev nD) : Nat :=
  let c0_i32_1166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1165 : BitVec 32 := 1#32
  let v1399 : BitVec 32 := Scalar.muli v13 c1_i32_1165
  let v1400 : BitVec 32 := Scalar.addi c0_i32_1166 v1399
  v1400.toNat
def k0_dev43 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1196 : BitVec 32 := 1#32
  let v1439 : BitVec 32 := Scalar.muli v13 c1_i32_1196
  let v1440 : BitVec 32 := Scalar.addi c0_i32_1197 v1439
  v1440.toNat
def k0_dev44 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1219 : BitVec 32 := 1#32
  let v1459 : BitVec 32 := Scalar.muli v24 c1_i32_1219
  let v1460 : BitVec 32 := Scalar.addi c0_i32_1220 v1459
  v1460.toNat
def k0_dev45 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1250 : BitVec 32 := 1#32
  let v1499 : BitVec 32 := Scalar.muli v24 c1_i32_1250
  let v1500 : BitVec 32 := Scalar.addi c0_i32_1251 v1499
  v1500.toNat
def k0_dev46 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1273 : BitVec 32 := 1#32
  let v1519 : BitVec 32 := Scalar.muli v13 c1_i32_1273
  let v1520 : BitVec 32 := Scalar.addi c0_i32_1274 v1519
  v1520.toNat
def k0_dev47 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1334 : BitVec 32 := 1#32
  let v1603 : BitVec 32 := Scalar.muli v13 c1_i32_1334
  let v1604 : BitVec 32 := Scalar.addi c0_i32_1335 v1603
  v1604.toNat
def k0_dev48 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1356 : BitVec 32 := 1#32
  let v1623 : BitVec 32 := Scalar.muli v24 c1_i32_1356
  let v1624 : BitVec 32 := Scalar.addi c0_i32_1357 v1623
  v1624.toNat
def k0_dev49 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1387 : BitVec 32 := 1#32
  let v1663 : BitVec 32 := Scalar.muli v24 c1_i32_1387
  let v1664 : BitVec 32 := Scalar.addi c0_i32_1388 v1663
  v1664.toNat
def k0_dev50 (d0 : Dev nD) : Nat :=
  let c0_i32_1411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1410 : BitVec 32 := 1#32
  let v1683 : BitVec 32 := Scalar.muli v13 c1_i32_1410
  let v1684 : BitVec 32 := Scalar.addi c0_i32_1411 v1683
  v1684.toNat
def k0_dev51 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1441 : BitVec 32 := 1#32
  let v1723 : BitVec 32 := Scalar.muli v13 c1_i32_1441
  let v1724 : BitVec 32 := Scalar.addi c0_i32_1442 v1723
  v1724.toNat
def k0_dev52 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1464 : BitVec 32 := 1#32
  let v1743 : BitVec 32 := Scalar.muli v24 c1_i32_1464
  let v1744 : BitVec 32 := Scalar.addi c0_i32_1465 v1743
  v1744.toNat
def k0_dev53 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1495 : BitVec 32 := 1#32
  let v1783 : BitVec 32 := Scalar.muli v24 c1_i32_1495
  let v1784 : BitVec 32 := Scalar.addi c0_i32_1496 v1783
  v1784.toNat
def k0_dev54 (d0 : Dev nD) : Nat :=
  let c0_i32_1519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1518 : BitVec 32 := 1#32
  let v1803 : BitVec 32 := Scalar.muli v13 c1_i32_1518
  let v1804 : BitVec 32 := Scalar.addi c0_i32_1519 v1803
  v1804.toNat
def k0_dev55 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1579 : BitVec 32 := 1#32
  let v1887 : BitVec 32 := Scalar.muli v13 c1_i32_1579
  let v1888 : BitVec 32 := Scalar.addi c0_i32_1580 v1887
  v1888.toNat
def k0_dev56 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1601 : BitVec 32 := 1#32
  let v1907 : BitVec 32 := Scalar.muli v24 c1_i32_1601
  let v1908 : BitVec 32 := Scalar.addi c0_i32_1602 v1907
  v1908.toNat
def k0_dev57 (d0 : Dev nD) : Nat :=
  let c0_i32_1633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1632 : BitVec 32 := 1#32
  let v1947 : BitVec 32 := Scalar.muli v24 c1_i32_1632
  let v1948 : BitVec 32 := Scalar.addi c0_i32_1633 v1947
  v1948.toNat
def k0_dev58 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1655 : BitVec 32 := 1#32
  let v1967 : BitVec 32 := Scalar.muli v13 c1_i32_1655
  let v1968 : BitVec 32 := Scalar.addi c0_i32_1656 v1967
  v1968.toNat
def k0_dev59 (d0 : Dev nD) : Nat :=
  let c0_i32_1687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1686 : BitVec 32 := 1#32
  let v2007 : BitVec 32 := Scalar.muli v13 c1_i32_1686
  let v2008 : BitVec 32 := Scalar.addi c0_i32_1687 v2007
  v2008.toNat
def k0_dev60 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1709 : BitVec 32 := 1#32
  let v2027 : BitVec 32 := Scalar.muli v24 c1_i32_1709
  let v2028 : BitVec 32 := Scalar.addi c0_i32_1710 v2027
  v2028.toNat
def k0_dev61 (d0 : Dev nD) : Nat :=
  let c0_i32_1741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1740 : BitVec 32 := 1#32
  let v2067 : BitVec 32 := Scalar.muli v24 c1_i32_1740
  let v2068 : BitVec 32 := Scalar.addi c0_i32_1741 v2067
  v2068.toNat
def k0_dev62 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1763 : BitVec 32 := 1#32
  let v2087 : BitVec 32 := Scalar.muli v13 c1_i32_1763
  let v2088 : BitVec 32 := Scalar.addi c0_i32_1764 v2087
  v2088.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v2096 : BitVec 32 := Scalar.addi v2 c8_i32
  let c16_i32_1768 : BitVec 32 := 16#32
  let c0_i32_1769 : BitVec 32 := 0#32
  let v2097 : BitVec 1 := Scalar.cmpi .eq c16_i32_1768 c0_i32_1769
  let c1_i32_1770 : BitVec 32 := 1#32
  let v2098 : BitVec 32 := Scalar.select v2097 c1_i32_1770 c16_i32_1768
  let v2099 : BitVec 32 := Scalar.remsi v2096 v2098
  let c0_i32_1772 : BitVec 32 := 0#32
  let v2101 : BitVec 1 := Scalar.cmpi .slt v2099 c0_i32_1772
  let c0_i32_1773 : BitVec 32 := 0#32
  let v2102 : BitVec 1 := Scalar.cmpi .slt v2098 c0_i32_1773
  let v2103 : BitVec 1 := Scalar.xori v2101 v2102
  let c0_i32_1771 : BitVec 32 := 0#32
  let v2100 : BitVec 1 := Scalar.cmpi .ne v2099 c0_i32_1771
  let v2104 : BitVec 1 := Scalar.andi v2103 v2100
  let v2105 : BitVec 32 := Scalar.addi v2099 v2098
  let v2106 : BitVec 32 := Scalar.select v2104 v2105 v2099
  let c256_i32_1774 : BitVec 32 := 256#32
  let v2107 : BitVec 32 := Scalar.muli v2106 c256_i32_1774
  let v2108 : Index := Scalar.indexCast v2107
  let c0_1775 : Index := 0#32
  ![v2108.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v2096 : BitVec 32 := Scalar.addi v2 c8_i32
  let c16_i32_1768 : BitVec 32 := 16#32
  let c0_i32_1769 : BitVec 32 := 0#32
  let v2097 : BitVec 1 := Scalar.cmpi .eq c16_i32_1768 c0_i32_1769
  let c1_i32_1770 : BitVec 32 := 1#32
  let v2098 : BitVec 32 := Scalar.select v2097 c1_i32_1770 c16_i32_1768
  let v2099 : BitVec 32 := Scalar.remsi v2096 v2098
  let c0_i32_1772 : BitVec 32 := 0#32
  let v2101 : BitVec 1 := Scalar.cmpi .slt v2099 c0_i32_1772
  let c0_i32_1773 : BitVec 32 := 0#32
  let v2102 : BitVec 1 := Scalar.cmpi .slt v2098 c0_i32_1773
  let v2103 : BitVec 1 := Scalar.xori v2101 v2102
  let c0_i32_1771 : BitVec 32 := 0#32
  let v2100 : BitVec 1 := Scalar.cmpi .ne v2099 c0_i32_1771
  let v2104 : BitVec 1 := Scalar.andi v2103 v2100
  let v2105 : BitVec 32 := Scalar.addi v2099 v2098
  let v2106 : BitVec 32 := Scalar.select v2104 v2105 v2099
  let c256_i32_1779 : BitVec 32 := 256#32
  let v2114 : BitVec 32 := Scalar.muli v2106 c256_i32_1779
  let v2115 : Index := Scalar.indexCast v2114
  let c0_1780 : Index := 0#32
  ![v2115.toNat, 0]
def k0_dev63 (d0 : Dev nD) : Nat :=
  let c0_i32_1808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1807 : BitVec 32 := 1#32
  let v2148 : BitVec 32 := Scalar.muli v13 c1_i32_1807
  let v2149 : BitVec 32 := Scalar.addi c0_i32_1808 v2148
  v2149.toNat
def k0_dev64 (d0 : Dev nD) : Nat :=
  let c0_i32_1831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1830 : BitVec 32 := 1#32
  let v2168 : BitVec 32 := Scalar.muli v24 c1_i32_1830
  let v2169 : BitVec 32 := Scalar.addi c0_i32_1831 v2168
  v2169.toNat
def k0_dev65 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1861 : BitVec 32 := 1#32
  let v2208 : BitVec 32 := Scalar.muli v24 c1_i32_1861
  let v2209 : BitVec 32 := Scalar.addi c0_i32_1862 v2208
  v2209.toNat
def k0_dev66 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1884 : BitVec 32 := 1#32
  let v2228 : BitVec 32 := Scalar.muli v13 c1_i32_1884
  let v2229 : BitVec 32 := Scalar.addi c0_i32_1885 v2228
  v2229.toNat
def k0_dev67 (d0 : Dev nD) : Nat :=
  let c0_i32_1916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1915 : BitVec 32 := 1#32
  let v2268 : BitVec 32 := Scalar.muli v13 c1_i32_1915
  let v2269 : BitVec 32 := Scalar.addi c0_i32_1916 v2268
  v2269.toNat
def k0_dev68 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1938 : BitVec 32 := 1#32
  let v2288 : BitVec 32 := Scalar.muli v24 c1_i32_1938
  let v2289 : BitVec 32 := Scalar.addi c0_i32_1939 v2288
  v2289.toNat
def k0_dev69 (d0 : Dev nD) : Nat :=
  let c0_i32_1970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1969 : BitVec 32 := 1#32
  let v2328 : BitVec 32 := Scalar.muli v24 c1_i32_1969
  let v2329 : BitVec 32 := Scalar.addi c0_i32_1970 v2328
  v2329.toNat
def k0_dev70 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1992 : BitVec 32 := 1#32
  let v2348 : BitVec 32 := Scalar.muli v13 c1_i32_1992
  let v2349 : BitVec 32 := Scalar.addi c0_i32_1993 v2348
  v2349.toNat
def k0_dev71 (d0 : Dev nD) : Nat :=
  let c0_i32_2024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2023 : BitVec 32 := 1#32
  let v2388 : BitVec 32 := Scalar.muli v13 c1_i32_2023
  let v2389 : BitVec 32 := Scalar.addi c0_i32_2024 v2388
  v2389.toNat
def k0_dev72 (d0 : Dev nD) : Nat :=
  let c0_i32_2046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2045 : BitVec 32 := 1#32
  let v2408 : BitVec 32 := Scalar.muli v24 c1_i32_2045
  let v2409 : BitVec 32 := Scalar.addi c0_i32_2046 v2408
  v2409.toNat
def k0_dev73 (d0 : Dev nD) : Nat :=
  let c0_i32_2077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2076 : BitVec 32 := 1#32
  let v2448 : BitVec 32 := Scalar.muli v24 c1_i32_2076
  let v2449 : BitVec 32 := Scalar.addi c0_i32_2077 v2448
  v2449.toNat
def k0_dev74 (d0 : Dev nD) : Nat :=
  let c0_i32_2100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2099 : BitVec 32 := 1#32
  let v2468 : BitVec 32 := Scalar.muli v13 c1_i32_2099
  let v2469 : BitVec 32 := Scalar.addi c0_i32_2100 v2468
  v2469.toNat
def k0_dev75 (d0 : Dev nD) : Nat :=
  let c0_i32_2131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2130 : BitVec 32 := 1#32
  let v2508 : BitVec 32 := Scalar.muli v13 c1_i32_2130
  let v2509 : BitVec 32 := Scalar.addi c0_i32_2131 v2508
  v2509.toNat
def k0_dev76 (d0 : Dev nD) : Nat :=
  let c0_i32_2154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2153 : BitVec 32 := 1#32
  let v2528 : BitVec 32 := Scalar.muli v24 c1_i32_2153
  let v2529 : BitVec 32 := Scalar.addi c0_i32_2154 v2528
  v2529.toNat
def k0_dev77 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2184 : BitVec 32 := 1#32
  let v2568 : BitVec 32 := Scalar.muli v24 c1_i32_2184
  let v2569 : BitVec 32 := Scalar.addi c0_i32_2185 v2568
  v2569.toNat
def k0_dev78 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2207 : BitVec 32 := 1#32
  let v2588 : BitVec 32 := Scalar.muli v13 c1_i32_2207
  let v2589 : BitVec 32 := Scalar.addi c0_i32_2208 v2588
  v2589.toNat
def k0_dev79 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2238 : BitVec 32 := 1#32
  let v2628 : BitVec 32 := Scalar.muli v13 c1_i32_2238
  let v2629 : BitVec 32 := Scalar.addi c0_i32_2239 v2628
  v2629.toNat
def k0_dev80 (d0 : Dev nD) : Nat :=
  let c0_i32_2261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2260 : BitVec 32 := 1#32
  let v2648 : BitVec 32 := Scalar.muli v24 c1_i32_2260
  let v2649 : BitVec 32 := Scalar.addi c0_i32_2261 v2648
  v2649.toNat
def k0_dev81 (d0 : Dev nD) : Nat :=
  let c0_i32_2292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2291 : BitVec 32 := 1#32
  let v2688 : BitVec 32 := Scalar.muli v24 c1_i32_2291
  let v2689 : BitVec 32 := Scalar.addi c0_i32_2292 v2688
  v2689.toNat
def k0_dev82 (d0 : Dev nD) : Nat :=
  let c0_i32_2315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2314 : BitVec 32 := 1#32
  let v2708 : BitVec 32 := Scalar.muli v13 c1_i32_2314
  let v2709 : BitVec 32 := Scalar.addi c0_i32_2315 v2708
  v2709.toNat
def k0_dev83 (d0 : Dev nD) : Nat :=
  let c0_i32_2346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2345 : BitVec 32 := 1#32
  let v2748 : BitVec 32 := Scalar.muli v13 c1_i32_2345
  let v2749 : BitVec 32 := Scalar.addi c0_i32_2346 v2748
  v2749.toNat
def k0_dev84 (d0 : Dev nD) : Nat :=
  let c0_i32_2369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2368 : BitVec 32 := 1#32
  let v2768 : BitVec 32 := Scalar.muli v24 c1_i32_2368
  let v2769 : BitVec 32 := Scalar.addi c0_i32_2369 v2768
  v2769.toNat
def k0_dev85 (d0 : Dev nD) : Nat :=
  let c0_i32_2400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2399 : BitVec 32 := 1#32
  let v2808 : BitVec 32 := Scalar.muli v24 c1_i32_2399
  let v2809 : BitVec 32 := Scalar.addi c0_i32_2400 v2808
  v2809.toNat
def k0_dev86 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2422 : BitVec 32 := 1#32
  let v2828 : BitVec 32 := Scalar.muli v13 c1_i32_2422
  let v2829 : BitVec 32 := Scalar.addi c0_i32_2423 v2828
  v2829.toNat
def k0_dev87 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2453 : BitVec 32 := 1#32
  let v2868 : BitVec 32 := Scalar.muli v13 c1_i32_2453
  let v2869 : BitVec 32 := Scalar.addi c0_i32_2454 v2868
  v2869.toNat
def k0_dev88 (d0 : Dev nD) : Nat :=
  let c0_i32_2476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2475 : BitVec 32 := 1#32
  let v2888 : BitVec 32 := Scalar.muli v24 c1_i32_2475
  let v2889 : BitVec 32 := Scalar.addi c0_i32_2476 v2888
  v2889.toNat
def k0_dev89 (d0 : Dev nD) : Nat :=
  let c0_i32_2507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2506 : BitVec 32 := 1#32
  let v2928 : BitVec 32 := Scalar.muli v24 c1_i32_2506
  let v2929 : BitVec 32 := Scalar.addi c0_i32_2507 v2928
  v2929.toNat
def k0_dev90 (d0 : Dev nD) : Nat :=
  let c0_i32_2530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2529 : BitVec 32 := 1#32
  let v2948 : BitVec 32 := Scalar.muli v13 c1_i32_2529
  let v2949 : BitVec 32 := Scalar.addi c0_i32_2530 v2948
  v2949.toNat
def k0_dev91 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2560 : BitVec 32 := 1#32
  let v2988 : BitVec 32 := Scalar.muli v13 c1_i32_2560
  let v2989 : BitVec 32 := Scalar.addi c0_i32_2561 v2988
  v2989.toNat
def k0_dev92 (d0 : Dev nD) : Nat :=
  let c0_i32_2584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2583 : BitVec 32 := 1#32
  let v3008 : BitVec 32 := Scalar.muli v24 c1_i32_2583
  let v3009 : BitVec 32 := Scalar.addi c0_i32_2584 v3008
  v3009.toNat
def k0_dev93 (d0 : Dev nD) : Nat :=
  let c0_i32_2615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2614 : BitVec 32 := 1#32
  let v3048 : BitVec 32 := Scalar.muli v24 c1_i32_2614
  let v3049 : BitVec 32 := Scalar.addi c0_i32_2615 v3048
  v3049.toNat
def k0_dev94 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2637 : BitVec 32 := 1#32
  let v3068 : BitVec 32 := Scalar.muli v13 c1_i32_2637
  let v3069 : BitVec 32 := Scalar.addi c0_i32_2638 v3068
  v3069.toNat
def k0_dev95 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2668 : BitVec 32 := 1#32
  let v3108 : BitVec 32 := Scalar.muli v13 c1_i32_2668
  let v3109 : BitVec 32 := Scalar.addi c0_i32_2669 v3108
  v3109.toNat
def k0_dev96 (d0 : Dev nD) : Nat :=
  let c0_i32_2691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2690 : BitVec 32 := 1#32
  let v3128 : BitVec 32 := Scalar.muli v24 c1_i32_2690
  let v3129 : BitVec 32 := Scalar.addi c0_i32_2691 v3128
  v3129.toNat
def k0_dev97 (d0 : Dev nD) : Nat :=
  let c0_i32_2722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2721 : BitVec 32 := 1#32
  let v3168 : BitVec 32 := Scalar.muli v24 c1_i32_2721
  let v3169 : BitVec 32 := Scalar.addi c0_i32_2722 v3168
  v3169.toNat
def k0_dev98 (d0 : Dev nD) : Nat :=
  let c0_i32_2745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2744 : BitVec 32 := 1#32
  let v3188 : BitVec 32 := Scalar.muli v13 c1_i32_2744
  let v3189 : BitVec 32 := Scalar.addi c0_i32_2745 v3188
  v3189.toNat
def k0_dev99 (d0 : Dev nD) : Nat :=
  let c0_i32_2776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2775 : BitVec 32 := 1#32
  let v3228 : BitVec 32 := Scalar.muli v13 c1_i32_2775
  let v3229 : BitVec 32 := Scalar.addi c0_i32_2776 v3228
  v3229.toNat
def k0_dev100 (d0 : Dev nD) : Nat :=
  let c0_i32_2799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2798 : BitVec 32 := 1#32
  let v3248 : BitVec 32 := Scalar.muli v24 c1_i32_2798
  let v3249 : BitVec 32 := Scalar.addi c0_i32_2799 v3248
  v3249.toNat
def k0_dev101 (d0 : Dev nD) : Nat :=
  let c0_i32_2830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2829 : BitVec 32 := 1#32
  let v3288 : BitVec 32 := Scalar.muli v24 c1_i32_2829
  let v3289 : BitVec 32 := Scalar.addi c0_i32_2830 v3288
  v3289.toNat
def k0_dev102 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2852 : BitVec 32 := 1#32
  let v3308 : BitVec 32 := Scalar.muli v13 c1_i32_2852
  let v3309 : BitVec 32 := Scalar.addi c0_i32_2853 v3308
  v3309.toNat
def k0_dev103 (d0 : Dev nD) : Nat :=
  let c0_i32_2884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2883 : BitVec 32 := 1#32
  let v3348 : BitVec 32 := Scalar.muli v13 c1_i32_2883
  let v3349 : BitVec 32 := Scalar.addi c0_i32_2884 v3348
  v3349.toNat
def k0_dev104 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2905 : BitVec 32 := 1#32
  let v3368 : BitVec 32 := Scalar.muli v24 c1_i32_2905
  let v3369 : BitVec 32 := Scalar.addi c0_i32_2906 v3368
  v3369.toNat
def k0_dev105 (d0 : Dev nD) : Nat :=
  let c0_i32_2937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2936 : BitVec 32 := 1#32
  let v3408 : BitVec 32 := Scalar.muli v24 c1_i32_2936
  let v3409 : BitVec 32 := Scalar.addi c0_i32_2937 v3408
  v3409.toNat
def k0_dev106 (d0 : Dev nD) : Nat :=
  let c0_i32_2960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2959 : BitVec 32 := 1#32
  let v3428 : BitVec 32 := Scalar.muli v13 c1_i32_2959
  let v3429 : BitVec 32 := Scalar.addi c0_i32_2960 v3428
  v3429.toNat
def k0_dev107 (d0 : Dev nD) : Nat :=
  let c0_i32_2991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2990 : BitVec 32 := 1#32
  let v3468 : BitVec 32 := Scalar.muli v13 c1_i32_2990
  let v3469 : BitVec 32 := Scalar.addi c0_i32_2991 v3468
  v3469.toNat
def k0_dev108 (d0 : Dev nD) : Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3013 : BitVec 32 := 1#32
  let v3488 : BitVec 32 := Scalar.muli v24 c1_i32_3013
  let v3489 : BitVec 32 := Scalar.addi c0_i32_3014 v3488
  v3489.toNat
def k0_dev109 (d0 : Dev nD) : Nat :=
  let c0_i32_3045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3044 : BitVec 32 := 1#32
  let v3528 : BitVec 32 := Scalar.muli v24 c1_i32_3044
  let v3529 : BitVec 32 := Scalar.addi c0_i32_3045 v3528
  v3529.toNat
def k0_dev110 (d0 : Dev nD) : Nat :=
  let c0_i32_3068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3067 : BitVec 32 := 1#32
  let v3548 : BitVec 32 := Scalar.muli v13 c1_i32_3067
  let v3549 : BitVec 32 := Scalar.addi c0_i32_3068 v3548
  v3549.toNat
def k0_dev111 (d0 : Dev nD) : Nat :=
  let c0_i32_3099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3098 : BitVec 32 := 1#32
  let v3588 : BitVec 32 := Scalar.muli v13 c1_i32_3098
  let v3589 : BitVec 32 := Scalar.addi c0_i32_3099 v3588
  v3589.toNat
def k0_dev112 (d0 : Dev nD) : Nat :=
  let c0_i32_3121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3120 : BitVec 32 := 1#32
  let v3608 : BitVec 32 := Scalar.muli v24 c1_i32_3120
  let v3609 : BitVec 32 := Scalar.addi c0_i32_3121 v3608
  v3609.toNat
def k0_dev113 (d0 : Dev nD) : Nat :=
  let c0_i32_3152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3151 : BitVec 32 := 1#32
  let v3648 : BitVec 32 := Scalar.muli v24 c1_i32_3151
  let v3649 : BitVec 32 := Scalar.addi c0_i32_3152 v3648
  v3649.toNat
def k0_dev114 (d0 : Dev nD) : Nat :=
  let c0_i32_3175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3174 : BitVec 32 := 1#32
  let v3668 : BitVec 32 := Scalar.muli v13 c1_i32_3174
  let v3669 : BitVec 32 := Scalar.addi c0_i32_3175 v3668
  v3669.toNat
def k0_dev115 (d0 : Dev nD) : Nat :=
  let c0_i32_3206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3205 : BitVec 32 := 1#32
  let v3708 : BitVec 32 := Scalar.muli v13 c1_i32_3205
  let v3709 : BitVec 32 := Scalar.addi c0_i32_3206 v3708
  v3709.toNat
def k0_dev116 (d0 : Dev nD) : Nat :=
  let c0_i32_3229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3228 : BitVec 32 := 1#32
  let v3728 : BitVec 32 := Scalar.muli v24 c1_i32_3228
  let v3729 : BitVec 32 := Scalar.addi c0_i32_3229 v3728
  v3729.toNat
def k0_dev117 (d0 : Dev nD) : Nat :=
  let c0_i32_3260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3259 : BitVec 32 := 1#32
  let v3768 : BitVec 32 := Scalar.muli v24 c1_i32_3259
  let v3769 : BitVec 32 := Scalar.addi c0_i32_3260 v3768
  v3769.toNat
def k0_dev118 (d0 : Dev nD) : Nat :=
  let c0_i32_3283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3282 : BitVec 32 := 1#32
  let v3788 : BitVec 32 := Scalar.muli v13 c1_i32_3282
  let v3789 : BitVec 32 := Scalar.addi c0_i32_3283 v3788
  v3789.toNat
def k0_dev119 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3313 : BitVec 32 := 1#32
  let v3828 : BitVec 32 := Scalar.muli v13 c1_i32_3313
  let v3829 : BitVec 32 := Scalar.addi c0_i32_3314 v3828
  v3829.toNat
def k0_off13 (d0 : Dev nD) (c0_i32_3325 : BitVec 32) (c0_i32_3333 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3324 : BitVec 32 := 1#32
  let v3835 : BitVec 32 := Scalar.addi v2 c1_i32_3324
  let v3836 : BitVec 32 := Scalar.subi v3835 c0_i32_3325
  let c16_i32_3326 : BitVec 32 := 16#32
  let c0_i32_3327 : BitVec 32 := 0#32
  let v3837 : BitVec 1 := Scalar.cmpi .eq c16_i32_3326 c0_i32_3327
  let c1_i32_3328 : BitVec 32 := 1#32
  let v3838 : BitVec 32 := Scalar.select v3837 c1_i32_3328 c16_i32_3326
  let v3839 : BitVec 32 := Scalar.remsi v3836 v3838
  let c0_i32_3330 : BitVec 32 := 0#32
  let v3841 : BitVec 1 := Scalar.cmpi .slt v3839 c0_i32_3330
  let c0_i32_3331 : BitVec 32 := 0#32
  let v3842 : BitVec 1 := Scalar.cmpi .slt v3838 c0_i32_3331
  let v3843 : BitVec 1 := Scalar.xori v3841 v3842
  let c0_i32_3329 : BitVec 32 := 0#32
  let v3840 : BitVec 1 := Scalar.cmpi .ne v3839 c0_i32_3329
  let v3844 : BitVec 1 := Scalar.andi v3843 v3840
  let v3845 : BitVec 32 := Scalar.addi v3839 v3838
  let v3846 : BitVec 32 := Scalar.select v3844 v3845 v3839
  let c256_i32_3332 : BitVec 32 := 256#32
  let v3847 : BitVec 32 := Scalar.muli v3846 c256_i32_3332
  let v3848 : BitVec 32 := Scalar.addi v3847 c0_i32_3333
  let c0_i32_3340 : BitVec 32 := 0#32
  ![v3848.toNat, 0]
def k0_dev120 (d0 : Dev nD) : Nat :=
  let c0_i32_3339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3338 : BitVec 32 := 1#32
  let v3851 : BitVec 32 := Scalar.muli v24 c1_i32_3338
  let v3852 : BitVec 32 := Scalar.addi c0_i32_3339 v3851
  v3852.toNat
def k0_dev121 (d0 : Dev nD) : Nat :=
  let c0_i32_3369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3368 : BitVec 32 := 1#32
  let v3890 : BitVec 32 := Scalar.muli v24 c1_i32_3368
  let v3891 : BitVec 32 := Scalar.addi c0_i32_3369 v3890
  v3891.toNat
def k0_off14 (d0 : Dev nD) (c0_i32_3380 : BitVec 32) (c128_i32_3388 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3379 : BitVec 32 := 1#32
  let v3897 : BitVec 32 := Scalar.subi v2 c1_i32_3379
  let v3898 : BitVec 32 := Scalar.addi v3897 c0_i32_3380
  let c16_i32_3381 : BitVec 32 := 16#32
  let c0_i32_3382 : BitVec 32 := 0#32
  let v3899 : BitVec 1 := Scalar.cmpi .eq c16_i32_3381 c0_i32_3382
  let c1_i32_3383 : BitVec 32 := 1#32
  let v3900 : BitVec 32 := Scalar.select v3899 c1_i32_3383 c16_i32_3381
  let v3901 : BitVec 32 := Scalar.remsi v3898 v3900
  let c0_i32_3385 : BitVec 32 := 0#32
  let v3903 : BitVec 1 := Scalar.cmpi .slt v3901 c0_i32_3385
  let c0_i32_3386 : BitVec 32 := 0#32
  let v3904 : BitVec 1 := Scalar.cmpi .slt v3900 c0_i32_3386
  let v3905 : BitVec 1 := Scalar.xori v3903 v3904
  let c0_i32_3384 : BitVec 32 := 0#32
  let v3902 : BitVec 1 := Scalar.cmpi .ne v3901 c0_i32_3384
  let v3906 : BitVec 1 := Scalar.andi v3905 v3902
  let v3907 : BitVec 32 := Scalar.addi v3901 v3900
  let v3908 : BitVec 32 := Scalar.select v3906 v3907 v3901
  let c256_i32_3387 : BitVec 32 := 256#32
  let v3909 : BitVec 32 := Scalar.muli v3908 c256_i32_3387
  let v3910 : BitVec 32 := Scalar.addi v3909 c128_i32_3388
  let c0_i32_3395 : BitVec 32 := 0#32
  ![v3910.toNat, 0]
def k0_dev122 (d0 : Dev nD) : Nat :=
  let c0_i32_3394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3393 : BitVec 32 := 1#32
  let v3913 : BitVec 32 := Scalar.muli v13 c1_i32_3393
  let v3914 : BitVec 32 := Scalar.addi c0_i32_3394 v3913
  v3914.toNat
def k0_dev123 (d0 : Dev nD) : Nat :=
  let c0_i32_3424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3423 : BitVec 32 := 1#32
  let v3952 : BitVec 32 := Scalar.muli v13 c1_i32_3423
  let v3953 : BitVec 32 := Scalar.addi c0_i32_3424 v3952
  v3953.toNat
def k0_dev124 (d0 : Dev nD) : Nat :=
  let c0_i32_3449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3448 : BitVec 32 := 1#32
  let v3975 : BitVec 32 := Scalar.muli v24 c1_i32_3448
  let v3976 : BitVec 32 := Scalar.addi c0_i32_3449 v3975
  v3976.toNat
def k0_dev125 (d0 : Dev nD) : Nat :=
  let c0_i32_3479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3478 : BitVec 32 := 1#32
  let v4014 : BitVec 32 := Scalar.muli v24 c1_i32_3478
  let v4015 : BitVec 32 := Scalar.addi c0_i32_3479 v4014
  v4015.toNat
def k0_dev126 (d0 : Dev nD) : Nat :=
  let c0_i32_3504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3503 : BitVec 32 := 1#32
  let v4037 : BitVec 32 := Scalar.muli v13 c1_i32_3503
  let v4038 : BitVec 32 := Scalar.addi c0_i32_3504 v4037
  v4038.toNat
def k0_dev127 (d0 : Dev nD) : Nat :=
  let c0_i32_3515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3514 : BitVec 32 := 1#32
  let v4051 : BitVec 32 := Scalar.muli v13 c1_i32_3514
  let v4052 : BitVec 32 := Scalar.addi c0_i32_3515 v4051
  v4052.toNat
def k0_dev128 (d0 : Dev nD) : Nat :=
  let c0_i32_3540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3539 : BitVec 32 := 1#32
  let v4074 : BitVec 32 := Scalar.muli v24 c1_i32_3539
  let v4075 : BitVec 32 := Scalar.addi c0_i32_3540 v4074
  v4075.toNat
def k0_dev129 (d0 : Dev nD) : Nat :=
  let c0_i32_3551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3550 : BitVec 32 := 1#32
  let v4088 : BitVec 32 := Scalar.muli v24 c1_i32_3550
  let v4089 : BitVec 32 := Scalar.addi c0_i32_3551 v4088
  v4089.toNat
def k0_dev130 (d0 : Dev nD) : Nat :=
  let c0_i32_3576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3575 : BitVec 32 := 1#32
  let v4111 : BitVec 32 := Scalar.muli v13 c1_i32_3575
  let v4112 : BitVec 32 := Scalar.addi c0_i32_3576 v4111
  v4112.toNat
def k0_dev131 (d0 : Dev nD) : Nat :=
  let c0_i32_3587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3586 : BitVec 32 := 1#32
  let v4125 : BitVec 32 := Scalar.muli v13 c1_i32_3586
  let v4126 : BitVec 32 := Scalar.addi c0_i32_3587 v4125
  v4126.toNat
def k0_dev132 (d0 : Dev nD) : Nat :=
  let c0_i32_3612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3611 : BitVec 32 := 1#32
  let v4148 : BitVec 32 := Scalar.muli v24 c1_i32_3611
  let v4149 : BitVec 32 := Scalar.addi c0_i32_3612 v4148
  v4149.toNat
def k0_dev133 (d0 : Dev nD) : Nat :=
  let c0_i32_3623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3622 : BitVec 32 := 1#32
  let v4162 : BitVec 32 := Scalar.muli v24 c1_i32_3622
  let v4163 : BitVec 32 := Scalar.addi c0_i32_3623 v4162
  v4163.toNat
def k0_dev134 (d0 : Dev nD) : Nat :=
  let c0_i32_3648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3647 : BitVec 32 := 1#32
  let v4185 : BitVec 32 := Scalar.muli v13 c1_i32_3647
  let v4186 : BitVec 32 := Scalar.addi c0_i32_3648 v4185
  v4186.toNat
def k0_dev135 (d0 : Dev nD) : Nat :=
  let c0_i32_3659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3658 : BitVec 32 := 1#32
  let v4199 : BitVec 32 := Scalar.muli v13 c1_i32_3658
  let v4200 : BitVec 32 := Scalar.addi c0_i32_3659 v4199
  v4200.toNat
def k0_dev136 (d0 : Dev nD) : Nat :=
  let c0_i32_3682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3681 : BitVec 32 := 1#32
  let v4221 : BitVec 32 := Scalar.muli v24 c1_i32_3681
  let v4222 : BitVec 32 := Scalar.addi c0_i32_3682 v4221
  v4222.toNat
def k0_dev137 (d0 : Dev nD) : Nat :=
  let c0_i32_3693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3692 : BitVec 32 := 1#32
  let v4235 : BitVec 32 := Scalar.muli v24 c1_i32_3692
  let v4236 : BitVec 32 := Scalar.addi c0_i32_3693 v4235
  v4236.toNat
def k0_dev138 (d0 : Dev nD) : Nat :=
  let c0_i32_3716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3715 : BitVec 32 := 1#32
  let v4257 : BitVec 32 := Scalar.muli v13 c1_i32_3715
  let v4258 : BitVec 32 := Scalar.addi c0_i32_3716 v4257
  v4258.toNat
def k0_dev139 (d0 : Dev nD) : Nat :=
  let c0_i32_3727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3726 : BitVec 32 := 1#32
  let v4271 : BitVec 32 := Scalar.muli v13 c1_i32_3726
  let v4272 : BitVec 32 := Scalar.addi c0_i32_3727 v4271
  v4272.toNat
def k0_dev140 (d0 : Dev nD) : Nat :=
  let c0_i32_3750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3749 : BitVec 32 := 1#32
  let v4293 : BitVec 32 := Scalar.muli v24 c1_i32_3749
  let v4294 : BitVec 32 := Scalar.addi c0_i32_3750 v4293
  v4294.toNat
def k0_dev141 (d0 : Dev nD) : Nat :=
  let c0_i32_3761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3760 : BitVec 32 := 1#32
  let v4307 : BitVec 32 := Scalar.muli v24 c1_i32_3760
  let v4308 : BitVec 32 := Scalar.addi c0_i32_3761 v4307
  v4308.toNat
def k0_dev142 (d0 : Dev nD) : Nat :=
  let c0_i32_3784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3783 : BitVec 32 := 1#32
  let v4329 : BitVec 32 := Scalar.muli v13 c1_i32_3783
  let v4330 : BitVec 32 := Scalar.addi c0_i32_3784 v4329
  v4330.toNat
def k0_dev143 (d0 : Dev nD) : Nat :=
  let c0_i32_3795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3794 : BitVec 32 := 1#32
  let v4343 : BitVec 32 := Scalar.muli v13 c1_i32_3794
  let v4344 : BitVec 32 := Scalar.addi c0_i32_3795 v4343
  v4344.toNat
def k0_dev144 (d0 : Dev nD) : Nat :=
  let c0_i32_3818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3817 : BitVec 32 := 1#32
  let v4365 : BitVec 32 := Scalar.muli v24 c1_i32_3817
  let v4366 : BitVec 32 := Scalar.addi c0_i32_3818 v4365
  v4366.toNat
def k0_dev145 (d0 : Dev nD) : Nat :=
  let c0_i32_3829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3828 : BitVec 32 := 1#32
  let v4379 : BitVec 32 := Scalar.muli v24 c1_i32_3828
  let v4380 : BitVec 32 := Scalar.addi c0_i32_3829 v4379
  v4380.toNat
def k0_dev146 (d0 : Dev nD) : Nat :=
  let c0_i32_3852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3851 : BitVec 32 := 1#32
  let v4401 : BitVec 32 := Scalar.muli v13 c1_i32_3851
  let v4402 : BitVec 32 := Scalar.addi c0_i32_3852 v4401
  v4402.toNat
def k0_dev147 (d0 : Dev nD) : Nat :=
  let c0_i32_3863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3862 : BitVec 32 := 1#32
  let v4415 : BitVec 32 := Scalar.muli v13 c1_i32_3862
  let v4416 : BitVec 32 := Scalar.addi c0_i32_3863 v4415
  v4416.toNat
def k0_dev148 (d0 : Dev nD) : Nat :=
  let c0_i32_3886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3885 : BitVec 32 := 1#32
  let v4437 : BitVec 32 := Scalar.muli v24 c1_i32_3885
  let v4438 : BitVec 32 := Scalar.addi c0_i32_3886 v4437
  v4438.toNat
def k0_dev149 (d0 : Dev nD) : Nat :=
  let c0_i32_3897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3896 : BitVec 32 := 1#32
  let v4451 : BitVec 32 := Scalar.muli v24 c1_i32_3896
  let v4452 : BitVec 32 := Scalar.addi c0_i32_3897 v4451
  v4452.toNat
def k0_dev150 (d0 : Dev nD) : Nat :=
  let c0_i32_3920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3919 : BitVec 32 := 1#32
  let v4473 : BitVec 32 := Scalar.muli v13 c1_i32_3919
  let v4474 : BitVec 32 := Scalar.addi c0_i32_3920 v4473
  v4474.toNat
def k0_dev151 (d0 : Dev nD) : Nat :=
  let c0_i32_3931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3930 : BitVec 32 := 1#32
  let v4487 : BitVec 32 := Scalar.muli v13 c1_i32_3930
  let v4488 : BitVec 32 := Scalar.addi c0_i32_3931 v4487
  v4488.toNat
def k0_dev152 (d0 : Dev nD) : Nat :=
  let c0_i32_3954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3953 : BitVec 32 := 1#32
  let v4509 : BitVec 32 := Scalar.muli v24 c1_i32_3953
  let v4510 : BitVec 32 := Scalar.addi c0_i32_3954 v4509
  v4510.toNat
def k0_dev153 (d0 : Dev nD) : Nat :=
  let c0_i32_3965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3964 : BitVec 32 := 1#32
  let v4523 : BitVec 32 := Scalar.muli v24 c1_i32_3964
  let v4524 : BitVec 32 := Scalar.addi c0_i32_3965 v4523
  v4524.toNat
def k0_dev154 (d0 : Dev nD) : Nat :=
  let c0_i32_3988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3987 : BitVec 32 := 1#32
  let v4545 : BitVec 32 := Scalar.muli v13 c1_i32_3987
  let v4546 : BitVec 32 := Scalar.addi c0_i32_3988 v4545
  v4546.toNat
def k0_dev155 (d0 : Dev nD) : Nat :=
  let c0_i32_3999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3998 : BitVec 32 := 1#32
  let v4559 : BitVec 32 := Scalar.muli v13 c1_i32_3998
  let v4560 : BitVec 32 := Scalar.addi c0_i32_3999 v4559
  v4560.toNat
def k0_dev156 (d0 : Dev nD) : Nat :=
  let c0_i32_4022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4021 : BitVec 32 := 1#32
  let v4581 : BitVec 32 := Scalar.muli v24 c1_i32_4021
  let v4582 : BitVec 32 := Scalar.addi c0_i32_4022 v4581
  v4582.toNat
def k0_dev157 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4032 : BitVec 32 := 1#32
  let v4595 : BitVec 32 := Scalar.muli v24 c1_i32_4032
  let v4596 : BitVec 32 := Scalar.addi c0_i32_4033 v4595
  v4596.toNat
def k0_dev158 (d0 : Dev nD) : Nat :=
  let c0_i32_4056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4055 : BitVec 32 := 1#32
  let v4617 : BitVec 32 := Scalar.muli v13 c1_i32_4055
  let v4618 : BitVec 32 := Scalar.addi c0_i32_4056 v4617
  v4618.toNat
def k0_dev159 (d0 : Dev nD) : Nat :=
  let c0_i32_4067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4066 : BitVec 32 := 1#32
  let v4631 : BitVec 32 := Scalar.muli v13 c1_i32_4066
  let v4632 : BitVec 32 := Scalar.addi c0_i32_4067 v4631
  v4632.toNat
def k0_dev160 (d0 : Dev nD) : Nat :=
  let c0_i32_4090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4089 : BitVec 32 := 1#32
  let v4653 : BitVec 32 := Scalar.muli v24 c1_i32_4089
  let v4654 : BitVec 32 := Scalar.addi c0_i32_4090 v4653
  v4654.toNat
def k0_dev161 (d0 : Dev nD) : Nat :=
  let c0_i32_4101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4100 : BitVec 32 := 1#32
  let v4667 : BitVec 32 := Scalar.muli v24 c1_i32_4100
  let v4668 : BitVec 32 := Scalar.addi c0_i32_4101 v4667
  v4668.toNat
def k0_dev162 (d0 : Dev nD) : Nat :=
  let c0_i32_4124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4123 : BitVec 32 := 1#32
  let v4689 : BitVec 32 := Scalar.muli v13 c1_i32_4123
  let v4690 : BitVec 32 := Scalar.addi c0_i32_4124 v4689
  v4690.toNat
def k0_dev163 (d0 : Dev nD) : Nat :=
  let c0_i32_4135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4134 : BitVec 32 := 1#32
  let v4703 : BitVec 32 := Scalar.muli v13 c1_i32_4134
  let v4704 : BitVec 32 := Scalar.addi c0_i32_4135 v4703
  v4704.toNat
def k0_dev164 (d0 : Dev nD) : Nat :=
  let c0_i32_4158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4157 : BitVec 32 := 1#32
  let v4725 : BitVec 32 := Scalar.muli v24 c1_i32_4157
  let v4726 : BitVec 32 := Scalar.addi c0_i32_4158 v4725
  v4726.toNat
def k0_dev165 (d0 : Dev nD) : Nat :=
  let c0_i32_4169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4168 : BitVec 32 := 1#32
  let v4739 : BitVec 32 := Scalar.muli v24 c1_i32_4168
  let v4740 : BitVec 32 := Scalar.addi c0_i32_4169 v4739
  v4740.toNat
def k0_dev166 (d0 : Dev nD) : Nat :=
  let c0_i32_4192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4191 : BitVec 32 := 1#32
  let v4761 : BitVec 32 := Scalar.muli v13 c1_i32_4191
  let v4762 : BitVec 32 := Scalar.addi c0_i32_4192 v4761
  v4762.toNat
def k0_dev167 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4202 : BitVec 32 := 1#32
  let v4775 : BitVec 32 := Scalar.muli v13 c1_i32_4202
  let v4776 : BitVec 32 := Scalar.addi c0_i32_4203 v4775
  v4776.toNat
def k0_dev168 (d0 : Dev nD) : Nat :=
  let c0_i32_4226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4225 : BitVec 32 := 1#32
  let v4797 : BitVec 32 := Scalar.muli v24 c1_i32_4225
  let v4798 : BitVec 32 := Scalar.addi c0_i32_4226 v4797
  v4798.toNat
def k0_dev169 (d0 : Dev nD) : Nat :=
  let c0_i32_4237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4236 : BitVec 32 := 1#32
  let v4811 : BitVec 32 := Scalar.muli v24 c1_i32_4236
  let v4812 : BitVec 32 := Scalar.addi c0_i32_4237 v4811
  v4812.toNat
def k0_dev170 (d0 : Dev nD) : Nat :=
  let c0_i32_4260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4259 : BitVec 32 := 1#32
  let v4833 : BitVec 32 := Scalar.muli v13 c1_i32_4259
  let v4834 : BitVec 32 := Scalar.addi c0_i32_4260 v4833
  v4834.toNat
def k0_dev171 (d0 : Dev nD) : Nat :=
  let c0_i32_4271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4270 : BitVec 32 := 1#32
  let v4847 : BitVec 32 := Scalar.muli v13 c1_i32_4270
  let v4848 : BitVec 32 := Scalar.addi c0_i32_4271 v4847
  v4848.toNat
def k0_dev172 (d0 : Dev nD) : Nat :=
  let c0_i32_4294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4293 : BitVec 32 := 1#32
  let v4869 : BitVec 32 := Scalar.muli v24 c1_i32_4293
  let v4870 : BitVec 32 := Scalar.addi c0_i32_4294 v4869
  v4870.toNat
def k0_dev173 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4304 : BitVec 32 := 1#32
  let v4883 : BitVec 32 := Scalar.muli v24 c1_i32_4304
  let v4884 : BitVec 32 := Scalar.addi c0_i32_4305 v4883
  v4884.toNat
def k0_dev174 (d0 : Dev nD) : Nat :=
  let c0_i32_4328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4327 : BitVec 32 := 1#32
  let v4905 : BitVec 32 := Scalar.muli v13 c1_i32_4327
  let v4906 : BitVec 32 := Scalar.addi c0_i32_4328 v4905
  v4906.toNat
def k0_dev175 (d0 : Dev nD) : Nat :=
  let c0_i32_4339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4338 : BitVec 32 := 1#32
  let v4919 : BitVec 32 := Scalar.muli v13 c1_i32_4338
  let v4920 : BitVec 32 := Scalar.addi c0_i32_4339 v4919
  v4920.toNat
def k0_dev176 (d0 : Dev nD) : Nat :=
  let c0_i32_4362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4361 : BitVec 32 := 1#32
  let v4941 : BitVec 32 := Scalar.muli v24 c1_i32_4361
  let v4942 : BitVec 32 := Scalar.addi c0_i32_4362 v4941
  v4942.toNat
def k0_dev177 (d0 : Dev nD) : Nat :=
  let c0_i32_4373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4372 : BitVec 32 := 1#32
  let v4955 : BitVec 32 := Scalar.muli v24 c1_i32_4372
  let v4956 : BitVec 32 := Scalar.addi c0_i32_4373 v4955
  v4956.toNat
def k0_dev178 (d0 : Dev nD) : Nat :=
  let c0_i32_4396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4395 : BitVec 32 := 1#32
  let v4977 : BitVec 32 := Scalar.muli v13 c1_i32_4395
  let v4978 : BitVec 32 := Scalar.addi c0_i32_4396 v4977
  v4978.toNat
def k0_dev179 (d0 : Dev nD) : Nat :=
  let c0_i32_4407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4406 : BitVec 32 := 1#32
  let v4991 : BitVec 32 := Scalar.muli v13 c1_i32_4406
  let v4992 : BitVec 32 := Scalar.addi c0_i32_4407 v4991
  v4992.toNat
def k0_dev180 (d0 : Dev nD) : Nat :=
  let c0_i32_4430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4429 : BitVec 32 := 1#32
  let v5013 : BitVec 32 := Scalar.muli v24 c1_i32_4429
  let v5014 : BitVec 32 := Scalar.addi c0_i32_4430 v5013
  v5014.toNat
def k0_dev181 (d0 : Dev nD) : Nat :=
  let c0_i32_4441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4440 : BitVec 32 := 1#32
  let v5027 : BitVec 32 := Scalar.muli v24 c1_i32_4440
  let v5028 : BitVec 32 := Scalar.addi c0_i32_4441 v5027
  v5028.toNat
def k0_dev182 (d0 : Dev nD) : Nat :=
  let c0_i32_4464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4463 : BitVec 32 := 1#32
  let v5049 : BitVec 32 := Scalar.muli v13 c1_i32_4463
  let v5050 : BitVec 32 := Scalar.addi c0_i32_4464 v5049
  v5050.toNat
def k0_dev183 (d0 : Dev nD) : Nat :=
  let c0_i32_4475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4474 : BitVec 32 := 1#32
  let v5063 : BitVec 32 := Scalar.muli v13 c1_i32_4474
  let v5064 : BitVec 32 := Scalar.addi c0_i32_4475 v5063
  v5064.toNat
def k0_dev184 (d0 : Dev nD) : Nat :=
  let c0_i32_4498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4497 : BitVec 32 := 1#32
  let v5085 : BitVec 32 := Scalar.muli v24 c1_i32_4497
  let v5086 : BitVec 32 := Scalar.addi c0_i32_4498 v5085
  v5086.toNat
def k0_dev185 (d0 : Dev nD) : Nat :=
  let c0_i32_4509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4508 : BitVec 32 := 1#32
  let v5099 : BitVec 32 := Scalar.muli v24 c1_i32_4508
  let v5100 : BitVec 32 := Scalar.addi c0_i32_4509 v5099
  v5100.toNat
def k0_dev186 (d0 : Dev nD) : Nat :=
  let c0_i32_4532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4531 : BitVec 32 := 1#32
  let v5121 : BitVec 32 := Scalar.muli v13 c1_i32_4531
  let v5122 : BitVec 32 := Scalar.addi c0_i32_4532 v5121
  v5122.toNat
def k0_dev187 (d0 : Dev nD) : Nat :=
  let c0_i32_4543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4542 : BitVec 32 := 1#32
  let v5135 : BitVec 32 := Scalar.muli v13 c1_i32_4542
  let v5136 : BitVec 32 := Scalar.addi c0_i32_4543 v5135
  v5136.toNat
def k0_dev188 (d0 : Dev nD) : Nat :=
  let c0_i32_4566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4565 : BitVec 32 := 1#32
  let v5157 : BitVec 32 := Scalar.muli v24 c1_i32_4565
  let v5158 : BitVec 32 := Scalar.addi c0_i32_4566 v5157
  v5158.toNat
def k0_dev189 (d0 : Dev nD) : Nat :=
  let c0_i32_4577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4576 : BitVec 32 := 1#32
  let v5171 : BitVec 32 := Scalar.muli v24 c1_i32_4576
  let v5172 : BitVec 32 := Scalar.addi c0_i32_4577 v5171
  v5172.toNat
def k0_dev190 (d0 : Dev nD) : Nat :=
  let c0_i32_4600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4599 : BitVec 32 := 1#32
  let v5193 : BitVec 32 := Scalar.muli v13 c1_i32_4599
  let v5194 : BitVec 32 := Scalar.addi c0_i32_4600 v5193
  v5194.toNat
def k0_dev191 (d0 : Dev nD) : Nat :=
  let c0_i32_4611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4610 : BitVec 32 := 1#32
  let v5207 : BitVec 32 := Scalar.muli v13 c1_i32_4610
  let v5208 : BitVec 32 := Scalar.addi c0_i32_4611 v5207
  v5208.toNat
def k0_dev192 (d0 : Dev nD) : Nat :=
  let c0_i32_4634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4633 : BitVec 32 := 1#32
  let v5229 : BitVec 32 := Scalar.muli v24 c1_i32_4633
  let v5230 : BitVec 32 := Scalar.addi c0_i32_4634 v5229
  v5230.toNat
def k0_dev193 (d0 : Dev nD) : Nat :=
  let c0_i32_4645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4644 : BitVec 32 := 1#32
  let v5243 : BitVec 32 := Scalar.muli v24 c1_i32_4644
  let v5244 : BitVec 32 := Scalar.addi c0_i32_4645 v5243
  v5244.toNat
def k0_dev194 (d0 : Dev nD) : Nat :=
  let c0_i32_4668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4667 : BitVec 32 := 1#32
  let v5265 : BitVec 32 := Scalar.muli v13 c1_i32_4667
  let v5266 : BitVec 32 := Scalar.addi c0_i32_4668 v5265
  v5266.toNat
def k0_dev195 (d0 : Dev nD) : Nat :=
  let c0_i32_4679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4678 : BitVec 32 := 1#32
  let v5279 : BitVec 32 := Scalar.muli v13 c1_i32_4678
  let v5280 : BitVec 32 := Scalar.addi c0_i32_4679 v5279
  v5280.toNat
def k0_dev196 (d0 : Dev nD) : Nat :=
  let c0_i32_4702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4701 : BitVec 32 := 1#32
  let v5301 : BitVec 32 := Scalar.muli v24 c1_i32_4701
  let v5302 : BitVec 32 := Scalar.addi c0_i32_4702 v5301
  v5302.toNat
def k0_dev197 (d0 : Dev nD) : Nat :=
  let c0_i32_4713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4712 : BitVec 32 := 1#32
  let v5315 : BitVec 32 := Scalar.muli v24 c1_i32_4712
  let v5316 : BitVec 32 := Scalar.addi c0_i32_4713 v5315
  v5316.toNat
def k0_dev198 (d0 : Dev nD) : Nat :=
  let c0_i32_4736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4735 : BitVec 32 := 1#32
  let v5337 : BitVec 32 := Scalar.muli v13 c1_i32_4735
  let v5338 : BitVec 32 := Scalar.addi c0_i32_4736 v5337
  v5338.toNat
def k0_dev199 (d0 : Dev nD) : Nat :=
  let c0_i32_4747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4746 : BitVec 32 := 1#32
  let v5351 : BitVec 32 := Scalar.muli v13 c1_i32_4746
  let v5352 : BitVec 32 := Scalar.addi c0_i32_4747 v5351
  v5352.toNat
def k0_dev200 (d0 : Dev nD) : Nat :=
  let c0_i32_4770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4769 : BitVec 32 := 1#32
  let v5373 : BitVec 32 := Scalar.muli v24 c1_i32_4769
  let v5374 : BitVec 32 := Scalar.addi c0_i32_4770 v5373
  v5374.toNat
def k0_dev201 (d0 : Dev nD) : Nat :=
  let c0_i32_4781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4780 : BitVec 32 := 1#32
  let v5387 : BitVec 32 := Scalar.muli v24 c1_i32_4780
  let v5388 : BitVec 32 := Scalar.addi c0_i32_4781 v5387
  v5388.toNat
def k0_dev202 (d0 : Dev nD) : Nat :=
  let c0_i32_4804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4803 : BitVec 32 := 1#32
  let v5409 : BitVec 32 := Scalar.muli v13 c1_i32_4803
  let v5410 : BitVec 32 := Scalar.addi c0_i32_4804 v5409
  v5410.toNat
def k0_dev203 (d0 : Dev nD) : Nat :=
  let c0_i32_4815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4814 : BitVec 32 := 1#32
  let v5423 : BitVec 32 := Scalar.muli v13 c1_i32_4814
  let v5424 : BitVec 32 := Scalar.addi c0_i32_4815 v5423
  v5424.toNat
def k0_dev204 (d0 : Dev nD) : Nat :=
  let c0_i32_4838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4837 : BitVec 32 := 1#32
  let v5445 : BitVec 32 := Scalar.muli v24 c1_i32_4837
  let v5446 : BitVec 32 := Scalar.addi c0_i32_4838 v5445
  v5446.toNat
def k0_dev205 (d0 : Dev nD) : Nat :=
  let c0_i32_4849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4848 : BitVec 32 := 1#32
  let v5459 : BitVec 32 := Scalar.muli v24 c1_i32_4848
  let v5460 : BitVec 32 := Scalar.addi c0_i32_4849 v5459
  v5460.toNat
def k0_dev206 (d0 : Dev nD) : Nat :=
  let c0_i32_4872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4871 : BitVec 32 := 1#32
  let v5481 : BitVec 32 := Scalar.muli v13 c1_i32_4871
  let v5482 : BitVec 32 := Scalar.addi c0_i32_4872 v5481
  v5482.toNat
def k0_dev207 (d0 : Dev nD) : Nat :=
  let c0_i32_4883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4882 : BitVec 32 := 1#32
  let v5495 : BitVec 32 := Scalar.muli v13 c1_i32_4882
  let v5496 : BitVec 32 := Scalar.addi c0_i32_4883 v5495
  v5496.toNat
def k0_dev208 (d0 : Dev nD) : Nat :=
  let c0_i32_4906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4905 : BitVec 32 := 1#32
  let v5517 : BitVec 32 := Scalar.muli v24 c1_i32_4905
  let v5518 : BitVec 32 := Scalar.addi c0_i32_4906 v5517
  v5518.toNat
def k0_dev209 (d0 : Dev nD) : Nat :=
  let c0_i32_4917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4916 : BitVec 32 := 1#32
  let v5531 : BitVec 32 := Scalar.muli v24 c1_i32_4916
  let v5532 : BitVec 32 := Scalar.addi c0_i32_4917 v5531
  v5532.toNat
def k0_dev210 (d0 : Dev nD) : Nat :=
  let c0_i32_4940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4939 : BitVec 32 := 1#32
  let v5553 : BitVec 32 := Scalar.muli v13 c1_i32_4939
  let v5554 : BitVec 32 := Scalar.addi c0_i32_4940 v5553
  v5554.toNat
def k0_dev211 (d0 : Dev nD) : Nat :=
  let c0_i32_4951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4950 : BitVec 32 := 1#32
  let v5567 : BitVec 32 := Scalar.muli v13 c1_i32_4950
  let v5568 : BitVec 32 := Scalar.addi c0_i32_4951 v5567
  v5568.toNat
def k0_dev212 (d0 : Dev nD) : Nat :=
  let c0_i32_4974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4973 : BitVec 32 := 1#32
  let v5589 : BitVec 32 := Scalar.muli v24 c1_i32_4973
  let v5590 : BitVec 32 := Scalar.addi c0_i32_4974 v5589
  v5590.toNat
def k0_dev213 (d0 : Dev nD) : Nat :=
  let c0_i32_4985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4984 : BitVec 32 := 1#32
  let v5603 : BitVec 32 := Scalar.muli v24 c1_i32_4984
  let v5604 : BitVec 32 := Scalar.addi c0_i32_4985 v5603
  v5604.toNat
def k0_dev214 (d0 : Dev nD) : Nat :=
  let c0_i32_5008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5007 : BitVec 32 := 1#32
  let v5625 : BitVec 32 := Scalar.muli v13 c1_i32_5007
  let v5626 : BitVec 32 := Scalar.addi c0_i32_5008 v5625
  v5626.toNat
def k0_dev215 (d0 : Dev nD) : Nat :=
  let c0_i32_5019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5018 : BitVec 32 := 1#32
  let v5639 : BitVec 32 := Scalar.muli v13 c1_i32_5018
  let v5640 : BitVec 32 := Scalar.addi c0_i32_5019 v5639
  v5640.toNat
def k0_dev216 (d0 : Dev nD) : Nat :=
  let c0_i32_5042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5041 : BitVec 32 := 1#32
  let v5661 : BitVec 32 := Scalar.muli v24 c1_i32_5041
  let v5662 : BitVec 32 := Scalar.addi c0_i32_5042 v5661
  v5662.toNat
def k0_dev217 (d0 : Dev nD) : Nat :=
  let c0_i32_5053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5052 : BitVec 32 := 1#32
  let v5675 : BitVec 32 := Scalar.muli v24 c1_i32_5052
  let v5676 : BitVec 32 := Scalar.addi c0_i32_5053 v5675
  v5676.toNat
def k0_dev218 (d0 : Dev nD) : Nat :=
  let c0_i32_5076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5075 : BitVec 32 := 1#32
  let v5697 : BitVec 32 := Scalar.muli v13 c1_i32_5075
  let v5698 : BitVec 32 := Scalar.addi c0_i32_5076 v5697
  v5698.toNat
def k0_dev219 (d0 : Dev nD) : Nat :=
  let c0_i32_5087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5086 : BitVec 32 := 1#32
  let v5711 : BitVec 32 := Scalar.muli v13 c1_i32_5086
  let v5712 : BitVec 32 := Scalar.addi c0_i32_5087 v5711
  v5712.toNat
def k0_dev220 (d0 : Dev nD) : Nat :=
  let c0_i32_5110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5109 : BitVec 32 := 1#32
  let v5733 : BitVec 32 := Scalar.muli v24 c1_i32_5109
  let v5734 : BitVec 32 := Scalar.addi c0_i32_5110 v5733
  v5734.toNat
def k0_dev221 (d0 : Dev nD) : Nat :=
  let c0_i32_5121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5120 : BitVec 32 := 1#32
  let v5747 : BitVec 32 := Scalar.muli v24 c1_i32_5120
  let v5748 : BitVec 32 := Scalar.addi c0_i32_5121 v5747
  v5748.toNat
def k0_dev222 (d0 : Dev nD) : Nat :=
  let c0_i32_5144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5143 : BitVec 32 := 1#32
  let v5769 : BitVec 32 := Scalar.muli v13 c1_i32_5143
  let v5770 : BitVec 32 := Scalar.addi c0_i32_5144 v5769
  v5770.toNat
def k0_dev223 (d0 : Dev nD) : Nat :=
  let c0_i32_5155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5154 : BitVec 32 := 1#32
  let v5783 : BitVec 32 := Scalar.muli v13 c1_i32_5154
  let v5784 : BitVec 32 := Scalar.addi c0_i32_5155 v5783
  v5784.toNat
def k0_dev224 (d0 : Dev nD) : Nat :=
  let c0_i32_5178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5177 : BitVec 32 := 1#32
  let v5805 : BitVec 32 := Scalar.muli v24 c1_i32_5177
  let v5806 : BitVec 32 := Scalar.addi c0_i32_5178 v5805
  v5806.toNat
def k0_dev225 (d0 : Dev nD) : Nat :=
  let c0_i32_5189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5188 : BitVec 32 := 1#32
  let v5819 : BitVec 32 := Scalar.muli v24 c1_i32_5188
  let v5820 : BitVec 32 := Scalar.addi c0_i32_5189 v5819
  v5820.toNat
def k0_dev226 (d0 : Dev nD) : Nat :=
  let c0_i32_5212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5211 : BitVec 32 := 1#32
  let v5841 : BitVec 32 := Scalar.muli v13 c1_i32_5211
  let v5842 : BitVec 32 := Scalar.addi c0_i32_5212 v5841
  v5842.toNat
def k0_dev227 (d0 : Dev nD) : Nat :=
  let c0_i32_5223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5222 : BitVec 32 := 1#32
  let v5855 : BitVec 32 := Scalar.muli v13 c1_i32_5222
  let v5856 : BitVec 32 := Scalar.addi c0_i32_5223 v5855
  v5856.toNat
def k0_dev228 (d0 : Dev nD) : Nat :=
  let c0_i32_5246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5245 : BitVec 32 := 1#32
  let v5877 : BitVec 32 := Scalar.muli v24 c1_i32_5245
  let v5878 : BitVec 32 := Scalar.addi c0_i32_5246 v5877
  v5878.toNat
def k0_dev229 (d0 : Dev nD) : Nat :=
  let c0_i32_5257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5256 : BitVec 32 := 1#32
  let v5891 : BitVec 32 := Scalar.muli v24 c1_i32_5256
  let v5892 : BitVec 32 := Scalar.addi c0_i32_5257 v5891
  v5892.toNat
def k0_dev230 (d0 : Dev nD) : Nat :=
  let c0_i32_5280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5279 : BitVec 32 := 1#32
  let v5913 : BitVec 32 := Scalar.muli v13 c1_i32_5279
  let v5914 : BitVec 32 := Scalar.addi c0_i32_5280 v5913
  v5914.toNat
def k0_dev231 (d0 : Dev nD) : Nat :=
  let c0_i32_5311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5310 : BitVec 32 := 1#32
  let v5947 : BitVec 32 := Scalar.muli v24 c1_i32_5310
  let v5948 : BitVec 32 := Scalar.addi c0_i32_5311 v5947
  v5948.toNat
def k0_dev232 (d0 : Dev nD) : Nat :=
  let c0_i32_5342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5341 : BitVec 32 := 1#32
  let v5981 : BitVec 32 := Scalar.muli v13 c1_i32_5341
  let v5982 : BitVec 32 := Scalar.addi c0_i32_5342 v5981
  v5982.toNat
def k0_dev233 (d0 : Dev nD) : Nat :=
  let c0_i32_5373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5372 : BitVec 32 := 1#32
  let v6015 : BitVec 32 := Scalar.muli v24 c1_i32_5372
  let v6016 : BitVec 32 := Scalar.addi c0_i32_5373 v6015
  v6016.toNat
def k0_dev234 (d0 : Dev nD) : Nat :=
  let c0_i32_5404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5403 : BitVec 32 := 1#32
  let v6049 : BitVec 32 := Scalar.muli v13 c1_i32_5403
  let v6050 : BitVec 32 := Scalar.addi c0_i32_5404 v6049
  v6050.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Struct.lean ====
/-
# The kernel's body as a loop

The printed body is the thirty ring steps written out one after the other. This module states the same program as a
recursion over the steps (`steps`), each step a sequence of four ring steps (`ringStep`) after at most two chunk
products (`computes`), and proves the printed body equal to it (`body_eq`).

Ring `k` (0..3) owns rows `64 k .. 64 k + 63` of every 256-row chunk; rings 0 and 1 travel to the right-hand
neighbour, rings 2 and 3 to the left-hand one. A step runs the rings in the order 0, 2, 1, 3.
-/
module

public import proofs.«01_k».proof.Proof.Gen.KernelIdeal
public import proofs.«01_k».proof.Proof.Gen.KernelIdeal.Skeleton
public import Idealize.ShloMosaic.Lib.Tactic

@[expose] public section

noncomputable section

namespace Cert.KernelProof

open Cert.KernelIdeal Cert.KernelIdeal.Gen
open Idealize.ShloMosaic Idealize.SL.Sem

variable {F : FTy → Type} [FloatOps F]

/-! ## Buffers and semaphores by ring -/

abbrev xM : Memref sig .tc .vmem S4096x256 .f32 := Memref.whole cc0_stg0_0
abbrev wM : Memref sig .tc .vmem S256x2048 .f32 := Memref.whole cc0_stg1_0
abbrev oM : Memref sig .tc .vmem S4096x2048 .f32 := Memref.whole cc0_stg2_0

/-- Ring `k`'s landing buffer (two slots of 64 rows). -/
def rM : Fin 4 → Memref sig .tc .vmem S2x64x2048 .f32
  | 0 => Memref.whole cc0_scratch0
  | 1 => Memref.whole cc0_scratch1
  | 2 => Memref.whole cc0_scratch2
  | 3 => Memref.whole cc0_scratch3

/-- Ring `k`'s two send semaphores. -/
def ssem : Fin 4 → DmaSems sig S2
  | 0 => cc0_scratch4
  | 1 => cc0_scratch5
  | 2 => cc0_scratch6
  | 3 => cc0_scratch7

/-- Ring `k`'s two receive semaphores. -/
def rsem : Fin 4 → DmaSems sig S2
  | 0 => cc0_scratch8
  | 1 => cc0_scratch9
  | 2 => cc0_scratch10
  | 3 => cc0_scratch11

/-- Ring `k`'s credit semaphore. -/
def csem : Fin 4 → Sem sig
  | 0 => (cc0_scratch12 : Sems sig S_).sem
  | 1 => (cc0_scratch13 : Sems sig S_).sem
  | 2 => (cc0_scratch14 : Sems sig S_).sem
  | 3 => (cc0_scratch15 : Sems sig S_).sem

abbrev barS : Sem sig := (SemArray.scalar (sig.barrier 0 rfl) : Sems sig S_).sem

theorem slot_sem_inb (b : Fin 2) : ∀ a, (![b.val] : Fin 1 → ℕ) a + S1.size a ≤ S2.size a := by revert b; decide

/-- The semaphore of a pair at slot `b`. -/
def semAt (a : DmaSems sig S2) (b : Fin 2) : DmaSem sig :=
  ((a.slice (Rect.unit (s := S2) ![b.val] S1.size (slot_sem_inb b))).squeeze S_ squeezes_S1_S_).sem

abbrev sendS (k : Fin 4) (b : Fin 2) : DmaSem sig := semAt (ssem k) b
abbrev recvS (k : Fin 4) (b : Fin 2) : DmaSem sig := semAt (rsem k) b

theorem slot_inb (b : Fin 2) : ∀ a, (![b.val, 0, 0] : Fin 3 → ℕ) a + S1x64x2048.size a ≤ S2x64x2048.size a := by revert b; decide

/-- The rectangle of a landing buffer's slot `b`. -/
abbrev slotRect (b : Fin 2) : Rect S2x64x2048 := Rect.unit (s := S2x64x2048) ![b.val, 0, 0] S1x64x2048.size (slot_inb b)

/-- A landing buffer's slot `b`, as 64 rows. -/
def slotM (r : Memref sig .tc .vmem S2x64x2048 .f32) (b : Fin 2) : Memref sig .tc .vmem S64x2048 .f32 :=
  (r.slice (slotRect b) (fun _ => rfl)).squeeze S64x2048 squeezes_S1x64x2048_S64x2048

/-! ## Devices and row offsets -/

def leftD (d : Dev nD) : Dev nD := ⟨k0_dev1 d, k0_dev1_lt d⟩
def rightD (d : Dev nD) : Dev nD := ⟨k0_dev2 d, k0_dev2_lt d⟩

/-- Where ring `k` sends. -/
def nxt : Fin 4 → Dev nD → Dev nD
  | 0 => rightD | 1 => rightD | 2 => leftD | 3 => leftD
/-- Where ring `k` receives from. -/
def prv : Fin 4 → Dev nD → Dev nD
  | 0 => leftD | 1 => leftD | 2 => rightD | 3 => rightD

/-- Row offset of the segment ring `k` sends at step `u`. -/
def sendOff (k : Fin 4) (d : Dev nD) (u : ℕ) : Fin 2 → ℕ :=
  if u < 15 then
    match k with
    | 0 => k0_off3 d (BitVec.ofNat 32 u) 0#32
    | 1 => k0_off3 d (BitVec.ofNat 32 u) 64#32
    | 2 => k0_off4 d (BitVec.ofNat 32 u) 128#32
    | 3 => k0_off4 d (BitVec.ofNat 32 u) 192#32
  else
    match k with
    | 0 => k0_off13 d (BitVec.ofNat 32 (u - 15)) 0#32
    | 1 => k0_off13 d (BitVec.ofNat 32 (u - 15)) 64#32
    | 2 => k0_off14 d (BitVec.ofNat 32 (u - 15)) 128#32
    | 3 => k0_off14 d (BitVec.ofNat 32 (u - 15)) 192#32

/-- Row offset of the segment ring `k` accumulates at step `s < 15`. -/
def recvOff (k : Fin 4) (d : Dev nD) (s : ℕ) : Fin 2 → ℕ :=
  match k with
  | 0 => k0_off9 d (BitVec.ofNat 32 s) 0#32
  | 1 => k0_off9 d (BitVec.ofNat 32 s) 64#32
  | 2 => k0_off10 d (BitVec.ofNat 32 s) 128#32
  | 3 => k0_off10 d (BitVec.ofNat 32 s) 192#32

theorem sendOff_inb (k : Fin 4) (d : Dev nD) (u : Fin 30) (a : Fin 2) : sendOff k d u.val a + S64x2048.size a ≤ S4096x2048.size a := by
  revert a u d k; decide +kernel

theorem recvOff_inb (k : Fin 4) (d : Dev nD) (s : Fin 15) (a : Fin 2) : recvOff k d s.val a + S64x2048.size a ≤ S4096x2048.size a := by
  revert a s d k; decide +kernel

/-- The rows ring `k` sends at step `u`. -/
def sendM (k : Fin 4) (d : Dev nD) (u : ℕ) (hu : u < 30) : Memref sig .tc .vmem S64x2048 .f32 :=
  oM.slice (Rect.unit (s := S4096x2048) (sendOff k d u) S64x2048.size (sendOff_inb k d ⟨u, hu⟩)) (fun _ => rfl)

/-! ## The program -/

abbrev P (F : FTy → Type) [FloatOps F] : Type 1 := Prog (TpuEff nD τ sig (Elt F) Λ₀ .tc) PUnit

/-- One chunk product: `out[rows] = x[rows] · w`. -/
def compute (xo : Fin 2 → ℕ) (hx : ∀ a, xo a + S256x256.size a ≤ S4096x256.size a)
    (oo : Fin 2 → ℕ) (ho : ∀ a, oo a + S256x2048.size a ≤ S4096x2048.size a) (K : P F) : P F :=
  .op (.load xM (Rect.unit (s := S4096x256) xo S256x256.size hx).toLoadRect (View.loadsAt_vmem h_S256x256)) fun xv =>
  .op (.load wM (Rect.unit (s := S256x2048) ![0, 0] S256x2048.size inb_S256x2048_S256x2048_0_0).toLoadRect (View.loadsAt_vmem h_S256x2048)) fun wv =>
  .op (.load oM (Rect.unit (s := S4096x2048) oo S256x2048.size ho).toLoadRect (View.loadsAt_vmem h_S256x2048)) fun _ =>
  .op (.store oM (Rect.unit (s := S4096x2048) oo S256x2048.size ho) (k0_pay1 xv wv) Finset.univ (View.stores_vmem_bits_univ h_S256x2048 rfl) (.inl rfl)) fun _ => K

/-- The chunk products before the ring steps of step `s`. -/
def computes (d : Dev nD) (s : ℕ) (K : P F) : P F :=
  if h : s < 7 then
    compute (k0_off5 d (BitVec.ofNat 32 s)) (k0_off5_inb d ⟨s, h⟩) (k0_off6 d (BitVec.ofNat 32 s)) (k0_off6_inb d ⟨s, h⟩)
      (compute (k0_off7 d (BitVec.ofNat 32 s)) (k0_off7_inb d ⟨s, h⟩) (k0_off8 d (BitVec.ofNat 32 s)) (k0_off8_inb d ⟨s, h⟩) K)
  else if s = 7 then compute (k0_off11 d) (k0_off11_inb d) (k0_off12 d) (k0_off12_inb d) K
  else K

/-- Start ring `k`'s transfer of step `u` into slot `b`. -/
def enq (k : Fin 4) (d : Dev nD) (u : ℕ) (hu : u < 30) (b : Fin 2) (K : P F) : P F :=
  if u < 15 then
    .op (.enqueueDma (sendM k d u hu) (.remote (Dev.tc (nxt k d)) (slotM (rM k) b) (.dma (sendS k b))) (.dma (recvS k b))
      (View.wordExact_bits rfl) (View.wordExact_bits rfl) ⟨⟨rfl, Or.inl rfl⟩, trivial⟩) fun _ => K
  else
    .op (.enqueueDma (sendM k d u hu) (.remote (Dev.tc (nxt k d)) (sendM k d u hu) (.dma (sendS k b))) (.dma (recvS k b))
      (View.wordExact_bits rfl) (View.wordExact_bits rfl) ⟨⟨rfl, Or.inl rfl⟩, trivial⟩) fun _ => K

/-- Wait for ring `k`'s transfer of step `u` to have been sent. -/
def waitSend (k : Fin 4) (d : Dev nD) (u : ℕ) (hu : u < 30) (b : Fin 2) (K : P F) : P F :=
  if u < 15 then
    .op (.waitDma2 (sendS k b) (slotM (rM k) b) (sendM k d u hu) (View.wordExact_bits rfl) (View.wordExact_bits rfl)) fun _ => K
  else
    .op (.waitDma2 (sendS k b) (sendM k d u hu) (sendM k d u hu) (View.wordExact_bits rfl) (View.wordExact_bits rfl)) fun _ => K

/-- Wait for ring `k`'s transfer of step `s` to have arrived. -/
def waitRecv (k : Fin 4) (d : Dev nD) (s : ℕ) (hs : s < 30) (b : Fin 2) (K : P F) : P F :=
  if s < 15 then
    .op (.waitDma2 (recvS k b) (sendM k d s hs) (slotM (rM k) b) (View.wordExact_bits rfl) (View.wordExact_bits rfl)) fun _ => K
  else
    .op (.waitDma2 (recvS k b) (sendM k d s hs) (sendM k d s hs) (View.wordExact_bits rfl) (View.wordExact_bits rfl)) fun _ => K

/-- Add the landed segment to the rows it belongs to (steps 0..14). -/
def accum (k : Fin 4) (d : Dev nD) (s : ℕ) (b : Fin 2) (K : P F) : P F :=
  if h : s < 15 then
    .op (.load oM (Rect.unit (s := S4096x2048) (recvOff k d s) S64x2048.size (recvOff_inb k d ⟨s, h⟩)).toLoadRect (View.loadsAt_vmem h_S64x2048)) fun ov =>
    .op (.load (rM k) (slotRect b).toLoadRect (View.loadsAt_vmem h_S1x64x2048)) fun rv =>
    .op (.load oM (Rect.unit (s := S4096x2048) (recvOff k d s) S64x2048.size (recvOff_inb k d ⟨s, h⟩)).toLoadRect (View.loadsAt_vmem h_S64x2048)) fun _ =>
    .op (.store oM (Rect.unit (s := S4096x2048) (recvOff k d s) S64x2048.size (recvOff_inb k d ⟨s, h⟩)) (k0_pay7 ov rv) Finset.univ
      (View.stores_vmem_bits_univ h_S64x2048 rfl) (.inl rfl)) fun _ => K
  else K

/-- Signal a neighbour's semaphore once. -/
def signal (d' : Dev nD) (sm : Sem sig) (K : P F) : P F := .op (.semSignal (Dev.tc d') sm (1#32 : BitVec 32).toInt) fun _ => K

/-- The slot of step `u`. -/
abbrev slotOf (u : ℕ) : Fin 2 := ⟨u % 2, Nat.mod_lt _ (by decide)⟩

/-- Ring `k`'s credit of step `s` to the device it receives from. -/
def credit (k : Fin 4) (d : Dev nD) (s : ℕ) (K : P F) : P F :=
  if s < 28 then signal (prv k d) (csem k) K else K

/-- Before step `u`'s transfer: the credit of step `u - 2`, and the transfer of step `u - 2` sent. -/
def ready (k : Fin 4) (d : Dev nD) (u : ℕ) (hu : u < 30) (K : P F) : P F :=
  if h : 2 ≤ u then
    .op (.semWait (csem k) (1#32 : BitVec 32).toInt) fun _ => waitSend k d (u - 2) (by omega) (slotOf u) K
  else K

/-- Start the next step's transfer, if there is a next step. -/
def next (k : Fin 4) (d : Dev nD) (u : ℕ) (K : P F) : P F :=
  if hu : u < 30 then ready k d u hu (enq k d u hu (slotOf u) K) else K

/-- Ring `k`'s part of step `s`. -/
def ringStep (k : Fin 4) (d : Dev nD) (s : ℕ) (hs : s < 30) (K : P F) : P F :=
  waitRecv k d s hs (slotOf s) (accum k d s (slotOf s) (credit k d s (next k d (s + 1) K)))

/-- Step `s`: the chunk products, then the four rings. -/
def step (d : Dev nD) (s : ℕ) (hs : s < 30) (K : P F) : P F :=
  computes d s (ringStep 0 d s hs (ringStep 2 d s hs (ringStep 1 d s hs (ringStep 3 d s hs K))))

/-- The last `n` steps. -/
def steps (d : Dev nD) : (n : ℕ) → n ≤ 30 → P F → P F
  | 0, _, K => K
  | n + 1, h, K => step d (29 - n) (by omega) (steps d n (by omega) K)

/-- Ring `k`'s last two transfers sent. -/
def drain (k : Fin 4) (d : Dev nD) (K : P F) : P F :=
  waitSend k d 28 (by omega) 0 (waitSend k d 29 (by omega) 1 K)

/-- The body. -/
def body : P F :=
  .op .deviceId fun d =>
  signal (leftD d) barS <| signal (rightD d) barS <|
  .op (.semWait barS (2#32 : BitVec 32).toInt) fun _ =>
  compute (k0_off1 d) (k0_off1_inb d) (k0_off2 d) (k0_off2_inb d) <|
  enq 0 d 0 (by omega) 0 <| enq 2 d 0 (by omega) 0 <| enq 1 d 0 (by omega) 0 <| enq 3 d 0 (by omega) 0 <|
  steps d 30 (by omega) <|
  drain 0 d <| drain 2 d <| drain 1 d <| drain 3 d <| .ret ⟨⟩

end Cert.KernelProof

end
-- ==== Proof.Ring.lean ====
/-
# The arithmetic of the four rings

The result buffer has sixteen chunks of 256 rows, each of four segments of 64 rows; segment `n` is rows `64 n ..
64 n + 63`, of chunk `n / 4`, and belongs to ring `n % 4`. This module states which segment each ring sends and adds to
at each step, what its neighbours are, and which segments a device holds between two steps.
-/
module

public import proofs.«01_k».proof.Proof.Struct

@[expose] public section

noncomputable section

namespace Cert.KernelProof

open Cert.KernelIdeal Cert.KernelIdeal.Gen
open Idealize.ShloMosaic Idealize.SL.Sem

/-! ## Neighbours -/

theorem nxt_prv (k : Fin 4) (c : Dev nD) : nxt k (prv k c) = c := by revert c k; decide +kernel
theorem prv_nxt (k : Fin 4) (c : Dev nD) : prv k (nxt k c) = c := by revert c k; decide +kernel
theorem left_right (c : Dev nD) : leftD (rightD c) = c := by revert c; decide +kernel
theorem right_left (c : Dev nD) : rightD (leftD c) = c := by revert c; decide +kernel
theorem nxt_val (k : Fin 4) (c : Dev nD) : (nxt k c).val = if k.val < 2 then (c.val + 1) % 16 else (c.val + 15) % 16 := by
  revert c k; decide +kernel

/-! ## Chunks and segments -/

/-- The chunk whose segment ring `k` of device `c` sends at step `u`. -/
def ch (k : Fin 4) (c : Dev nD) (u : ℕ) : ℕ := if k.val < 2 then (c.val + 32 - u) % 16 else (c.val + u) % 16

theorem ch_lt (k : Fin 4) (c : Dev nD) (u : ℕ) : ch k c u < 16 := by unfold ch; split <;> omega

/-- That segment. -/
def sg (k : Fin 4) (c : Dev nD) (u : ℕ) : Fin 64 := ⟨4 * ch k c u + k.val, by have := ch_lt k c u; omega⟩

theorem sendOff_eq (k : Fin 4) (c : Dev nD) (u : Fin 30) : sendOff k c u.val = ![64 * (sg k c u.val).val, 0] := by
  revert u c k; decide +kernel
theorem recvOff_eq (k : Fin 4) (c : Dev nD) (s : Fin 15) : recvOff k c s.val = ![64 * (sg k c (s.val + 1)).val, 0] := by
  revert s c k; decide +kernel

theorem ch_nxt (k : Fin 4) (c : Dev nD) (u : ℕ) (hu : u ≤ 30) : ch k (nxt k c) (u + 1) = ch k c u := by
  unfold ch; rw [nxt_val]; have := c.isLt; have h16 : nD = 16 := rfl; split <;> omega
theorem sg_nxt (k : Fin 4) (c : Dev nD) (u : ℕ) (hu : u ≤ 30) : sg k (nxt k c) (u + 1) = sg k c u :=
  Fin.ext (by show 4 * _ + _ = 4 * _ + _; rw [ch_nxt k c u hu])
theorem sg_prv (k : Fin 4) (c : Dev nD) (u : ℕ) (hu : u ≤ 30) : sg k (prv k c) u = sg k c (u + 1) := by
  have h := sg_nxt k (prv k c) u hu; rw [nxt_prv] at h; exact h.symm

/-- The ring a segment belongs to. -/
def rk (n : Fin 64) : Fin 4 := ⟨n.val % 4, Nat.mod_lt _ (by decide)⟩
/-- The step (mod 16) at which device `c` sends the segment. -/
def ui (c : Dev nD) (n : Fin 64) : ℕ := if n.val % 4 < 2 then (c.val + 16 - n.val / 4) % 16 else (n.val / 4 + 16 - c.val) % 16

theorem ui_lt (c : Dev nD) (n : Fin 64) : ui c n < 16 := by unfold ui; split <;> omega

theorem rk_sg (k : Fin 4) (c : Dev nD) (u : ℕ) : rk (sg k c u) = k := Fin.ext (by show (4 * _ + k.val) % 4 = k.val; omega)

theorem ui_sg (k : Fin 4) (c : Dev nD) (u : ℕ) (hu : u ≤ 32) : ui c (sg k c u) = u % 16 := by
  have h1 : (sg k c u).val % 4 = k.val := by show (4 * _ + k.val) % 4 = k.val; omega
  have h2 : (sg k c u).val / 4 = ch k c u := by show (4 * _ + k.val) / 4 = _; omega
  have := c.isLt; have h16 : nD = 16 := rfl
  unfold ui; rw [h1, h2]; unfold ch; split <;> omega

theorem eq_sg_iff (k : Fin 4) (c : Dev nD) (u : ℕ) (hu : u ≤ 32) (n : Fin 64) : n = sg k c u ↔ rk n = k ∧ ui c n = u % 16 := by
  constructor
  · rintro rfl; exact ⟨rk_sg k c u, ui_sg k c u hu⟩
  · rintro ⟨rfl, h⟩
    have := c.isLt; have h16 : nD = 16 := rfl; have hn := n.isLt
    refine Fin.ext ?_
    show n.val = 4 * ch (rk n) c u + n.val % 4
    unfold ui at h; unfold ch rk
    split at h <;> simp only [*, if_true, if_false] <;> omega

/-! ## Chunk products -/

theorem off1_eq (c : Dev nD) : k0_off1 c = ![256 * c.val, 0] := by revert c; decide +kernel
theorem off2_eq (c : Dev nD) : k0_off2 c = ![256 * c.val, 0] := by revert c; decide +kernel
theorem off5_eq (c : Dev nD) (s : Fin 7) : k0_off5 c (BitVec.ofNat 32 s.val) = ![256 * ((c.val + 15 - s.val) % 16), 0] := by revert s c; decide +kernel
theorem off6_eq (c : Dev nD) (s : Fin 7) : k0_off6 c (BitVec.ofNat 32 s.val) = ![256 * ((c.val + 15 - s.val) % 16), 0] := by revert s c; decide +kernel
theorem off7_eq (c : Dev nD) (s : Fin 7) : k0_off7 c (BitVec.ofNat 32 s.val) = ![256 * ((c.val + 1 + s.val) % 16), 0] := by revert s c; decide +kernel
theorem off8_eq (c : Dev nD) (s : Fin 7) : k0_off8 c (BitVec.ofNat 32 s.val) = ![256 * ((c.val + 1 + s.val) % 16), 0] := by revert s c; decide +kernel
theorem off11_eq (c : Dev nD) : k0_off11 c = ![256 * ((c.val + 8) % 16), 0] := by revert c; decide +kernel
theorem off12_eq (c : Dev nD) : k0_off12 c = ![256 * ((c.val + 8) % 16), 0] := by revert c; decide +kernel

/-! ## What a device holds of its result buffer -/

/-- At the start of step `s` (30: after the last) the segment sent at step `v` (mod 16) of a ring is away: in flight, or
    handed to the sender before as its landing place. -/
def Away (s v : ℕ) : Prop :=
  (s = 30 ∧ (v = 12 ∨ v = 13)) ∨
  (s < 30 ∧ (v = s % 16 ∨ (1 ≤ s ∧ v = (s - 1) % 16) ∨ (15 ≤ s ∧ v = (s + 1) % 16) ∨ (14 ≤ s ∧ s ≤ 28 ∧ v = (s + 2) % 16)))

instance (s v : ℕ) : Decidable (Away s v) := by unfold Away; infer_instance

/-- The segments held when ring `k` is at the start of step `σ k`. -/
def held (c : Dev nD) (σ : Fin 4 → ℕ) : Finset (Fin 64) := Finset.univ.filter fun n => ¬ Away (σ (rk n)) (ui c n)

theorem mem_held {c : Dev nD} {σ : Fin 4 → ℕ} {n : Fin 64} : n ∈ held c σ ↔ ¬ Away (σ (rk n)) (ui c n) := by
  unfold held; simp

/-- The landed segment joins. -/
def hRecv (k : Fin 4) (c : Dev nD) (s : ℕ) (H : Finset (Fin 64)) : Finset (Fin 64) := if 15 ≤ s then insert (sg k c (s + 1)) H else H
/-- The credit hands a segment over. -/
def hCred (k : Fin 4) (c : Dev nD) (s : ℕ) (H : Finset (Fin 64)) : Finset (Fin 64) := if 13 ≤ s ∧ s < 28 then H.erase (sg k c (s + 3)) else H
/-- A sent segment comes back. -/
def hBack (k : Fin 4) (c : Dev nD) (s : ℕ) (H : Finset (Fin 64)) : Finset (Fin 64) := if 1 ≤ s ∧ s < 29 then insert (sg k c (s - 1)) H else H
/-- The next transfer takes a segment. -/
def hSend (k : Fin 4) (c : Dev nD) (s : ℕ) (H : Finset (Fin 64)) : Finset (Fin 64) := if s < 29 then H.erase (sg k c (s + 1)) else H

theorem mem_hRecv {k c s H n} : n ∈ hRecv k c s H ↔ (15 ≤ s ∧ n = sg k c (s + 1)) ∨ n ∈ H := by
  unfold hRecv; split_ifs with h <;> simp [h]
theorem mem_hCred {k c s H n} : n ∈ hCred k c s H ↔ ¬ ((13 ≤ s ∧ s < 28) ∧ n = sg k c (s + 3)) ∧ n ∈ H := by
  unfold hCred; split_ifs with h <;> simp [h]
theorem mem_hBack {k c s H n} : n ∈ hBack k c s H ↔ ((1 ≤ s ∧ s < 29) ∧ n = sg k c (s - 1)) ∨ n ∈ H := by
  unfold hBack; split_ifs with h <;> simp [h]
theorem mem_hSend {k c s H n} : n ∈ hSend k c s H ↔ ¬ (s < 29 ∧ n = sg k c (s + 1)) ∧ n ∈ H := by
  unfold hSend; split_ifs with h <;> simp [h]

theorem away_step : ∀ (s : Fin 30) (v : Fin 16),
    (¬ (s.val < 29 ∧ v.val = (s.val + 1) % 16) ∧ (((1 ≤ s.val ∧ s.val < 29) ∧ v.val = (s.val - 1) % 16) ∨
      ¬ ((13 ≤ s.val ∧ s.val < 28) ∧ v.val = (s.val + 3) % 16) ∧ ((15 ≤ s.val ∧ v.val = (s.val + 1) % 16) ∨ ¬ Away s.val v.val)))
    ↔ ¬ Away (s.val + 1) v.val := by decide +kernel

/-- One ring step's four changes of what is held. -/
theorem held_step (k : Fin 4) (c : Dev nD) (σ : Fin 4 → ℕ) (s : ℕ) (hs : s < 30) (hσ : σ k = s) :
    hSend k c s (hBack k c s (hCred k c s (hRecv k c s (held c σ)))) = held c (Function.update σ k (s + 1)) := by
  ext n
  rw [mem_hSend, mem_hBack, mem_hCred, mem_hRecv, mem_held, mem_held, Function.update_apply,
    eq_sg_iff k c (s + 1) (by omega) n, eq_sg_iff k c (s + 3) (by omega) n, eq_sg_iff k c (s - 1) (by omega) n]
  by_cases hk : rk n = k
  · rw [if_pos hk, hk, hσ]
    simp only [true_and]
    exact away_step ⟨s, hs⟩ ⟨ui c n, ui_lt c n⟩
  · rw [if_neg hk]; simp only [hk, false_and, and_false, not_false_eq_true, true_and, false_or]

/-- What a ring step finds held or not held, in its order. -/
theorem recv_notMem (k c) (σ : Fin 4 → ℕ) (s : ℕ) (hs : s < 30) (h : 15 ≤ s) (hσ : σ k = s) : sg k c (s + 1) ∉ held c σ := by
  rw [mem_held, rk_sg, ui_sg _ _ _ (by omega), hσ]; unfold Away; omega
theorem acc_mem (k c) (σ : Fin 4 → ℕ) (s : ℕ) (h : s < 15) (hσ : σ k = s) : sg k c (s + 1) ∈ held c σ := by
  rw [mem_held, rk_sg, ui_sg _ _ _ (by omega), hσ]; unfold Away; omega
theorem cred_mem (k c) (σ : Fin 4 → ℕ) (s : ℕ) (h : 13 ≤ s ∧ s < 28) (hσ : σ k = s) : sg k c (s + 3) ∈ hRecv k c s (held c σ) := by
  rw [mem_hRecv, mem_held, rk_sg, ui_sg _ _ _ (by omega), hσ]; right; unfold Away; omega
theorem back_notMem (k c) (σ : Fin 4 → ℕ) (s : ℕ) (h : 1 ≤ s ∧ s < 29) (hσ : σ k = s) : sg k c (s - 1) ∉ hCred k c s (hRecv k c s (held c σ)) := by
  rw [mem_hCred, mem_hRecv, eq_sg_iff k c _ (by omega), eq_sg_iff k c _ (by omega), mem_held, rk_sg, ui_sg _ _ _ (by omega), hσ]; unfold Away; omega
theorem send_mem (k c) (σ : Fin 4 → ℕ) (s : ℕ) (h : s < 29) (hσ : σ k = s) : sg k c (s + 1) ∈ hBack k c s (hCred k c s (hRecv k c s (held c σ))) := by
  rw [mem_hBack, mem_hCred, mem_hRecv, eq_sg_iff k c _ (by omega), eq_sg_iff k c _ (by omega), eq_sg_iff k c _ (by omega), mem_held, rk_sg, ui_sg _ _ _ (by omega), hσ]; unfold Away; omega

end Cert.KernelProof

end
-- ==== Proof.Contents.lean ====
/-
# What the buffers hold

For any device blocks `X c` of the activations and `Wt c` of the weights: the chunk products, the running sums a ring
carries, the finished segments, and the facts that hold of the result buffer between two steps.
-/
module

public import proofs.«01_k».proof.Proof.Ring
public import Idealize.ShloMosaic.Lib.ValueIdxCore
public import Idealize.ShloMosaic.Lib.Pipeline.Value

@[expose] public section

noncomputable section

namespace Cert.KernelProof

open Cert.KernelIdeal Cert.KernelIdeal.Gen
open Idealize.ShloMosaic Idealize.SL.Sem
open Idealize.ShloMosaic.ValueIdx

variable {F : FTy → Type} [FloatOps F]

/-- The segment of an element of the result buffer. -/
def segOf (i : S4096x2048.Idx) : Fin 64 := ⟨(i 0).val / 64, by have : (i 0).val < 4096 := (i 0).isLt; omega⟩

/-- The product of a device's activations block and its weights block, chunk by chunk as the kernel computes it. -/
def prod (x : Vec F S4096x256 .f32) (w : Vec F S256x2048 .f32) : Vec F S4096x2048 .f32 := fun i =>
  k0_pay1 (fun j => x (ix2 (n0 := 4096) (n1 := 256) ⟨256 * ((i 0).val / 256) + (j 0).val, by
      have h1 : (i 0).val < 4096 := (i 0).isLt; have h2 : (j 0).val < 256 := (j 0).isLt; omega⟩ (j 1))) w
    (ix2 (n0 := 256) (n1 := 2048) ⟨(i 0).val % 256, Nat.mod_lt _ (by decide)⟩ (i 1))

variable (P : Dev nD → Vec F S4096x2048 .f32)

/-- Ring `k`'s running sum on device `c` after `s` additions. -/
def acc (k : Fin 4) : ℕ → Dev nD → Vec F S4096x2048 .f32
  | 0, c => P c
  | s + 1, c => addf (P c) (acc k s (prv k c))

/-- The device that finishes a segment. -/
def ownr (n : Fin 64) : Dev nD := ⟨if n.val % 4 < 2 then (n.val / 4 + 15) % 16 else (n.val / 4 + 1) % 16, by
  have h : nD = 16 := rfl; rw [h]; split <;> omega⟩

theorem ownr_sg (k : Fin 4) (c : Dev nD) : ownr (sg k c 15) = c := by revert c k; decide +kernel

/-- The finished result. -/
def fin (i : S4096x2048.Idx) : F .f32 := acc P (rk (segOf i)) 15 (ownr (segOf i)) i

/-- What ring `k` of device `c` sends at step `u`. -/
def snt (k : Fin 4) (u : ℕ) (c : Dev nD) (i : S4096x2048.Idx) : F .f32 := if u < 15 then acc P k u c i else fin P i

theorem acc_last (k : Fin 4) (c : Dev nD) (i : S4096x2048.Idx) (h : segOf i = sg k c 15) : acc P k 15 c i = fin P i := by
  unfold fin; rw [h, ownr_sg, rk_sg]

/-! ## The result buffer between two steps -/

/-- After the chunk products of `p` steps, the chunk at distance `v` is computed. -/
def Comp (p v : ℕ) : Prop := v ≤ p ∨ 16 - v ≤ p
/-- At the start of step `s` the segment still holds the device's own product. -/
def TagD (p s v : ℕ) : Prop := Comp p v ∧ s + 1 ≤ v
/-- At the start of step `s` the segment holds the finished result. -/
def TagF (s v : ℕ) : Prop := (v = 15 ∧ 17 ≤ s) ∨ (v < 15 ∧ v + 18 ≤ s) ∨ (s = 30 ∧ v = 14)

def Good (c : Dev nD) (p : ℕ) (σ : Fin 4 → ℕ) (f : Vec F S4096x2048 .f32) : Prop :=
  ∀ i, segOf i ∈ held c σ → (TagD p (σ (rk (segOf i))) (ui c (segOf i)) → f i = P c i)
    ∧ (TagF (σ (rk (segOf i))) (ui c (segOf i)) → f i = fin P i)

/-- One ring step keeps the facts: the segment it added to or received holds what is sent next, the one that came back what
    was sent, the others what they held. -/
theorem good_step {c : Dev nD} {p : ℕ} {σ : Fin 4 → ℕ} {f f' : Vec F S4096x2048 .f32} (k : Fin 4) (s : ℕ) (hs : s < 30) (hσ : σ k = s)
    (hg : Good P c p σ f)
    (h1 : ∀ i, segOf i = sg k c (s + 1) → f' i = snt P k (s + 1) c i)
    (h2 : 1 ≤ s ∧ s < 29 → ∀ i, segOf i = sg k c (s - 1) → f' i = snt P k (s - 1) c i)
    (h3 : ∀ i, segOf i ≠ sg k c (s + 1) → ¬ ((1 ≤ s ∧ s < 29) ∧ segOf i = sg k c (s - 1)) → f' i = f i) :
    Good P c p (Function.update σ k (s + 1)) f' := by
  intro i hi
  have hv := ui_lt c (segOf i)
  have e1 := eq_sg_iff k c (s + 1) (by omega) (segOf i)
  have em := eq_sg_iff k c (s - 1) (by omega) (segOf i)
  rw [mem_held] at hi
  by_cases hk : rk (segOf i) = k
  · rw [hk] at e1 em hi ⊢
    rw [Function.update_self] at hi ⊢
    by_cases c1 : segOf i = sg k c (s + 1)
    · have hu := (e1.1 c1).2
      have hf := h1 i c1
      constructor
      · intro ht; unfold TagD at ht; omega
      · intro ht
        rw [hf]; unfold snt
        split
        · unfold TagF at ht; omega
        · rfl
    · by_cases c2 : (1 ≤ s ∧ s < 29) ∧ segOf i = sg k c (s - 1)
      · have hu := (em.1 c2.2).2
        have hf := h2 c2.1 i c2.2
        constructor
        · intro ht; unfold TagD at ht; omega
        · intro ht
          rw [hf]; unfold snt
          split
          · unfold TagF at ht; omega
          · rfl
      · have hf := h3 i c1 c2
        have n1 : ¬ ui c (segOf i) = (s + 1) % 16 := fun h => c1 (e1.2 ⟨rfl, h⟩)
        have n2 : 1 ≤ s ∧ s < 29 → ¬ ui c (segOf i) = (s - 1) % 16 := fun h1 h => c2 ⟨h1, em.2 ⟨rfl, h⟩⟩
        have hin : segOf i ∈ held c σ := by
          rw [mem_held, hk, hσ]; unfold Away at hi ⊢; omega
        have hg' := hg i hin
        rw [hk, hσ] at hg'
        rw [hf]
        refine ⟨fun ht => hg'.1 ?_, fun ht => hg'.2 ?_⟩
        · unfold TagD at ht ⊢; exact ⟨ht.1, by omega⟩
        · unfold TagF at ht ⊢; unfold Away at hi; omega
  · rw [Function.update_of_ne hk] at hi ⊢
    have c1 : segOf i ≠ sg k c (s + 1) := fun h => hk (e1.1 h).1
    have c2 : segOf i ≠ sg k c (s - 1) := fun h => hk (em.1 h).1
    have hf := h3 i c1 (fun h => c2 h.2)
    rw [hf]
    exact hg i (mem_held.2 hi)

/-- Before a ring adds to a segment it holds the device's own product there. -/
theorem good_own {c : Dev nD} {σ : Fin 4 → ℕ} {f : Vec F S4096x2048 .f32} (k : Fin 4) (s : ℕ) (hs : s < 15) (hσ : σ k = s)
    (hg : Good P c (s + 1) σ f) (i : S4096x2048.Idx) (h : segOf i = sg k c (s + 1)) : f i = P c i := by
  have e1 := (eq_sg_iff k c (s + 1) (by omega) (segOf i)).1 h
  refine (hg i (by rw [h]; exact acc_mem k c σ s hs hσ)).1 ?_
  rw [e1.1, e1.2, hσ]; unfold TagD Comp; omega

/-- All sent back and received, the held segments hold the finished result. -/
theorem good_end {c : Dev nD} {p : ℕ} {f : Vec F S4096x2048 .f32} (hg : Good P c p (fun _ => 30) f) (i : S4096x2048.Idx)
    (h : segOf i ∈ held c fun _ => 30) : f i = fin P i := by
  refine (hg i h).2 ?_
  rw [mem_held] at h
  have := ui_lt c (segOf i)
  unfold Away at h; unfold TagF; dsimp only at *; omega

/-- The chunk of an element, by its segment's step. -/
theorem chunk_iff (c : Dev nD) (i : S4096x2048.Idx) (v : ℕ) (hv : 1 ≤ v) (hv' : v < 16) :
    ((i 0).val / 256 = (c.val + 16 - v) % 16 → ui c (segOf i) = if (rk (segOf i)).val < 2 then v else 16 - v)
      ∧ (ui c (segOf i) = (if (rk (segOf i)).val < 2 then v else 16 - v) → (i 0).val / 256 = (c.val + 16 - v) % 16) := by
  have hi : (i 0).val < 4096 := (i 0).isLt
  have := c.isLt; have h16 : nD = 16 := rfl
  have hd : (segOf i).val = (i 0).val / 64 := rfl
  have hr : (rk (segOf i)).val = (segOf i).val % 4 := rfl
  unfold ui
  rw [hr]
  constructor
  · intro h; split <;> omega
  · intro h; split at h <;> omega

/-- The chunk products before step `s` keep the facts and compute two more chunks. -/
theorem good_comp {c : Dev nD} {s : ℕ} (hs : s < 8) {f f' : Vec F S4096x2048 .f32} (hg : Good P c s (fun _ => s) f)
    (h1 : ∀ i, (i 0).val / 256 = (c.val + 15 - s) % 16 ∨ (i 0).val / 256 = (c.val + 1 + s) % 16 → f' i = P c i)
    (h2 : ∀ i, ¬ ((i 0).val / 256 = (c.val + 15 - s) % 16 ∨ (i 0).val / 256 = (c.val + 1 + s) % 16) → f' i = f i) :
    Good P c (s + 1) (fun _ => s) f' := by
  intro i hi
  have ha := chunk_iff c i (s + 1) (by omega) (by omega)
  have hb := chunk_iff c i (15 - s) (by omega) (by omega)
  rw [show (c.val + 16 - (s + 1)) % 16 = (c.val + 15 - s) % 16 by omega] at ha
  rw [show (c.val + 16 - (15 - s)) % 16 = (c.val + 1 + s) % 16 by omega] at hb
  by_cases hc : (i 0).val / 256 = (c.val + 15 - s) % 16 ∨ (i 0).val / 256 = (c.val + 1 + s) % 16
  · rw [h1 i hc]
    exact ⟨fun _ => rfl, fun ht => by unfold TagF at ht; dsimp only at ht; omega⟩
  · rw [h2 i hc]
    refine ⟨fun ht => (hg i hi).1 ?_, fun ht => (hg i hi).2 ht⟩
    unfold TagD Comp at ht ⊢
    have hna := mt ha.2 fun h => hc (.inl h)
    have hnb := mt hb.2 fun h => hc (.inr h)
    dsimp only at *
    split at hna <;> simp only [*, if_true, if_false] at hnb <;> omega

theorem good_more {c : Dev nD} {s : ℕ} (hs : 8 ≤ s) {f : Vec F S4096x2048 .f32} (hg : Good P c s (fun _ => s) f) :
    Good P c (s + 1) (fun _ => s) f := by
  intro i hi
  refine ⟨fun ht => (hg i hi).1 ?_, (hg i hi).2⟩
  unfold TagD Comp at ht ⊢; omega

/-- A chunk computed before step `s` is held whole. -/
theorem comp_mem {c : Dev nD} {s : ℕ} (hs : s < 8) (i : S4096x2048.Idx)
    (h : (i 0).val / 256 = (c.val + 15 - s) % 16 ∨ (i 0).val / 256 = (c.val + 1 + s) % 16) : segOf i ∈ held c fun _ => s := by
  have ha := chunk_iff c i (s + 1) (by omega) (by omega)
  have hb := chunk_iff c i (15 - s) (by omega) (by omega)
  rw [show (c.val + 16 - (s + 1)) % 16 = (c.val + 15 - s) % 16 by omega] at ha
  rw [show (c.val + 16 - (15 - s)) % 16 = (c.val + 1 + s) % 16 by omega] at hb
  rw [mem_held]
  unfold Away
  rcases h with h | h
  · have := ha.1 h; split at this <;> omega
  · have := hb.1 h; split at this <;> omega

/-- The start: nothing to say beyond what is held. -/
theorem good_start (c : Dev nD) (f : Vec F S4096x2048 .f32) : Good P c 0 (fun _ => 0) f := by
  intro i hi
  have := ui_lt c (segOf i)
  refine ⟨fun ht => ?_, fun ht => ?_⟩
  · unfold TagD Comp at ht; omega
  · unfold TagF at ht; dsimp only at ht; omega

end Cert.KernelProof

end
-- ==== Proof.Sched.lean ====
/-
# The protocol

Which semaphore receives what from whom, and what each arrival hands over.

* The barrier semaphore of a device: one unit from each neighbour. A unit says that the landing places of that
  neighbour's first two arrivals, of the two rings that flow to it, are free.
* Receive semaphore `b` of ring `k`: round `j` is the arrival of step `u = 2 j + b`. It hands over the landing slot filled
  with the sender's running sum (`u < 15`), or a finished segment of the result buffer (`u ≥ 15`).
* Send semaphore `b` of ring `k`: round `j` is the departure of step `u = 2 j + b`. It gives the sent segment back.
* The credit semaphore of ring `k`: one round of 28 units, unit `s` from the device the ring sends to, at its step `s`.
  Unit `s` says that the landing places of the steps up to `s + 2` are free. What a unit hands over is knowledge, not
  memory, so the order in which the units arrive does not matter.

A landing place itself (`place`) travels through an invariant of its own (`Lib/Release.lean`): the receiver puts it in
before the unit that announces it, the sender takes it out before the transfer that fills it.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

/-! ## The ghost algebra: the pipeline's, the rounds', the landing places' -/

abbrev UB : Type := URounds (GSem nD τ sig) ℕ
/-- A landing place: receiving device, ring, step. -/
abbrev Key : Type := Dev nD × Fin 4 × ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × US)).trans embR
def ES : Emb US (MT nD τ sig ℕ (Elt F) ℕ UU ℕ) := (Emb.inr : Emb US (UB × US)).trans embR

omit [FloatOps F] in
instance ER_landsIn : (ER : Emb UB 𝕄).LandsIn (upEmb : UEmb _ 𝕄) := by unfold ER embR; infer_instance
omit [FloatOps F] in
instance ES_landsIn : (ES : Emb US 𝕄).LandsIn (upEmb : UEmb _ 𝕄) := by unfold ES embR; infer_instance

/-! ## The cells -/

/-- Of one ring: receive `b`, send `b`, credit. -/
abbrev RKind : Type := Fin 2 ⊕ Fin 2 ⊕ Unit
/-- A device's cells: the barrier, and each ring's five. -/
abbrev Kd : Type := Option (Fin 4 × RKind)

def smOf : Kd → SemLoc sig
  | none => .reg barS
  | some (k, .inl b) => .dma (recvS k b)
  | some (k, .inr (.inl b)) => .dma (sendS k b)
  | some (k, .inr (.inr _)) => .reg (csem k)

def rkinds : List RKind := [.inl 0, .inl 1, .inr (.inl 0), .inr (.inl 1), .inr (.inr ())]
def kinds : List Kd := none :: ((List.finRange 4).flatMap fun k => rkinds.map fun r => some (k, r))

/-- Which cell of a device a semaphore is. -/
def kind (sm : SemLoc sig) : Option Kd := kinds.find? fun x => smOf x = sm

theorem kind_smOf (x : Kd) : kind (smOf x) = some x := by revert x; decide +kernel
theorem smOf_injective : Function.Injective smOf := fun x y h => Option.some.inj (by rw [← kind_smOf x, h, kind_smOf])

abbrev cell (c : Dev nD) (x : Kd) : GSem nD τ sig := ((c : Thread nD τ), smOf x)
abbrev barC (c : Dev nD) : GSem nD τ sig := cell c none
abbrev recvC (c : Dev nD) (k : Fin 4) (b : Fin 2) : GSem nD τ sig := cell c (some (k, .inl b))
abbrev sendC (c : Dev nD) (k : Fin 4) (b : Fin 2) : GSem nD τ sig := cell c (some (k, .inr (.inl b)))
abbrev credC (c : Dev nD) (k : Fin 4) : GSem nD τ sig := cell c (some (k, .inr (.inr ())))

theorem cell_injective : Function.Injective fun cx : Dev nD × Kd => cell cx.1 cx.2 := by
  rintro ⟨c, x⟩ ⟨c', x'⟩ h
  have h1 : c = c' := congrArg (fun g : GSem nD τ sig => g.1.1) h
  have h2 : x = x' := smOf_injective (congrArg Prod.snd h)
  rw [h1, h2]

/-- What one transfer credits. -/
def N : ℕ := (slotM (rM 0) 0).view.dmaCredit
theorem N_pos : 0 < N := View.dmaCredit_pos _ (by decide)
theorem amount_slot (k : Fin 4) (b : Fin 2) (q : DmaSem sig) : (slotM (rM k) b).view.amount (.dma q) = N := by
  fin_cases k <;> rfl
theorem amount_send (k : Fin 4) (c : Dev nD) (u : ℕ) (hu : u < 30) (q : DmaSem sig) : (sendM k c u hu).view.amount (.dma q) = N := rfl

/-! ## Memory -/

abbrev oLoc (c : Dev nD) : Loc nD τ sig := (c : Thread nD τ).loc cc0_stg2_0

/-- The elements of segments `H`. -/
def hset (H : Finset (Fin 64)) : Finset S4096x2048.Idx := Finset.univ.filter fun i => segOf i ∈ H
theorem mem_hset {H : Finset (Fin 64)} {i : S4096x2048.Idx} : i ∈ hset H ↔ segOf i ∈ H := by unfold hset; simp

/-- Segments `H` of a device's result buffer, held outright at contents `f`. -/
def oPt (c : Dev nD) (H : Finset (Fin 64)) (f : Vec F S4096x2048 .f32) : sProp 𝕄 := (oLoc c) ↦[hset H]{fullShare} f

omit [FloatOps F] in
instance oPt_storable (c : Dev nD) (H) (f : Vec F S4096x2048 .f32) : BI.Storable (upEmb : UEmb _ 𝕄) (oPt c H f) := by unfold oPt; infer_instance

/-- Where the transfer of ring `k`, step `u` lands on device `c`: a slot of the landing buffer, or a segment of the result. -/
def place (x : Key) : sProp 𝕄 :=
  if x.2.2 < 15 then slot ((slotM (rM x.2.1) (slotOf x.2.2)).view.loc (x.1 : Thread nD τ)) (slotM (rM x.2.1) (slotOf x.2.2)).view.set
  else slot (oLoc x.1) (hset {sg x.2.1 x.1 (x.2.2 + 1)})

omit [FloatOps F] in
instance place_storable (x : Key) : BI.Storable (upEmb : UEmb _ 𝕄) (place (F := F) x) := by unfold place; split <;> infer_instance

theorem seg_lt (n : Fin 64) : 64 * n.val < 4096 := by have := n.isLt; omega

theorem hset_nonempty (n : Fin 64) : (hset {n}).Nonempty :=
  ⟨ix2 (n0 := 4096) (n1 := 2048) ⟨64 * n.val, seg_lt n⟩ ⟨0, by decide⟩, by
    rw [mem_hset, Finset.mem_singleton]
    exact Fin.ext (show 64 * n.val / 64 = n.val by omega)⟩

omit [FloatOps F] in
theorem place_excl (x : Key) : iprop(place x ∗ place x) ⊢ (False : sProp 𝕄) := by
  unfold place; split
  · exact slot_slot_false ⟨_, View.emb_mem_set _ (ix2 (n0 := 64) (n1 := 2048) ⟨0, by decide⟩ ⟨0, by decide⟩)⟩
  · exact slot_slot_false (hset_nonempty _)

variable (P : Dev nD → Vec F S4096x2048 .f32)

/-- The rows ring `k` of device `c` sends at step `u`, as 64 rows. -/
def segv (f : Vec F S4096x2048 .f32) (n : Fin 64) : Vec F S64x2048 .f32 := fun j =>
  f (ix2 (n0 := 4096) (n1 := 2048) ⟨64 * n.val + (j 0).val, by have h : (j 0).val < 64 := (j 0).isLt; have := n.isLt; omega⟩ (j 1))

/-! ## What the arrivals hand over -/

/-- The transfer of step `u` into device `c`. -/
def recvPay (c : Dev nD) (k : Fin 4) (u : ℕ) : sProp 𝕄 :=
  if u < 15 then owns (c : Thread nD τ) (slotM (rM k) (slotOf u)) fullShare (segv (acc P k u (prv k c)) (sg k c (u + 1)))
  else oPt c {sg k c (u + 1)} (fin P)

/-- The segment of step `u` sent by device `c`. -/
def sendPay (c : Dev nD) (k : Fin 4) (u : ℕ) : sProp 𝕄 := oPt c {sg k c u} (snt P k u c)

/-- The landing place of ring `k`, step `u` on device `c` has been freed. -/
def freed (c : Dev nD) (k : Fin 4) (u : ℕ) : sProp 𝕄 := released ES (c, k, u) 1

/-- What device `c` announces of step `u`: its place freed, its receive cell at that step's round. -/
def avail (c : Dev nD) (k : Fin 4) (u : ℕ) : sProp 𝕄 := iprop(freed c k u ∗ reached ER (recvC c k (slotOf u)) (u / 2))

/-- What device `c`'s credit of step `s` says. -/
def heard (c : Dev nD) (k : Fin 4) (s : ℕ) : sProp 𝕄 := bigSep (Finset.range (s + 1)) fun j => avail c k (j + 2)

/-- What a neighbour `c` says at the barrier, of two rings. -/
def opened (c : Dev nD) (k k' : Fin 4) : sProp 𝕄 := iprop((freed c k 0 ∗ freed c k 1) ∗ freed c k' 0 ∗ freed c k' 1)

omit [FloatOps F] in
instance freed_persistent (c k u) : BI.Persistent (freed (F := F) c k u) := by unfold freed; infer_instance
omit [FloatOps F] in
instance freed_storable (c k u) : BI.Storable (upEmb : UEmb _ 𝕄) (freed (F := F) c k u) := by unfold freed; infer_instance
omit [FloatOps F] in
instance avail_persistent (c k u) : BI.Persistent (avail (F := F) c k u) := by unfold avail; infer_instance
omit [FloatOps F] in
instance avail_storable (c k u) : BI.Storable (upEmb : UEmb _ 𝕄) (avail (F := F) c k u) := by unfold avail; infer_instance
omit [FloatOps F] in
instance heard_persistent (c k s) : BI.Persistent (heard (F := F) c k s) := by unfold heard; infer_instance
omit [FloatOps F] in
instance heard_storable (c k s) : BI.Storable (upEmb : UEmb _ 𝕄) (heard (F := F) c k s) := by unfold heard; infer_instance
omit [FloatOps F] in
instance opened_persistent (c k k') : BI.Persistent (opened (F := F) c k k') := by unfold opened; infer_instance
omit [FloatOps F] in
instance opened_storable (c k k') : BI.Storable (upEmb : UEmb _ 𝕄) (opened (F := F) c k k') := by unfold opened; infer_instance
instance recvPay_storable (c k u) : BI.Storable (upEmb : UEmb _ 𝕄) (recvPay P c k u) := by unfold recvPay; split <;> infer_instance
instance sendPay_storable (c k u) : BI.Storable (upEmb : UEmb _ 𝕄) (sendPay P c k u) := by unfold sendPay; infer_instance

/-! ## The schedule -/

def dutK : Option Kd → ℕ → Finset ℕ
  | some none, r => if r = 0 then {0, 1} else ∅
  | some (some (k, .inl b)), r => if 2 * r + b.val < 30 then {0} else ∅
  | some (some (k, .inr (.inl b))), r => if 2 * r + b.val < 30 then {0} else ∅
  | some (some (k, .inr (.inr _))), r => if r = 0 then Finset.range 28 else ∅
  | none, _ => ∅

def amtK : Option Kd → ℕ
  | some (some (k, .inl b)) => N
  | some (some (k, .inr (.inl b))) => N
  | _ => 1

def payK (c : Dev nD) : Option Kd → ℕ → ℕ → sProp 𝕄
  | some none, _, d => if d = 0 then opened (rightD c) 0 1 else opened (leftD c) 2 3
  | some (some (k, .inl b)), r, _ => recvPay P c k (2 * r + b.val)
  | some (some (k, .inr (.inl b))), r, _ => sendPay P c k (2 * r + b.val)
  | some (some (k, .inr (.inr _))), _, d => heard (nxt k c) k d
  | none, _, _ => iprop(emp)

instance payK_storable (c : Dev nD) (x : Option Kd) (r d : ℕ) : BI.Storable (upEmb : UEmb _ 𝕄) (payK P c x r d) := by
  rcases x with _ | _ | ⟨k, b | b | b⟩ <;> unfold payK
  · infer_instance
  · dsimp only; split <;> infer_instance
  · dsimp only; infer_instance
  · dsimp only; infer_instance
  · dsimp only; infer_instance

theorem amtK_pos (x : Option Kd) : 0 < amtK x := by
  rcases x with _ | _ | ⟨k, b | b | b⟩
  · exact Nat.one_pos
  · exact Nat.one_pos
  · exact N_pos
  · exact N_pos
  · exact Nat.one_pos

def ringRd : Rounds.Schedule (GSem nD τ sig) ℕ 𝕄 where
  duties g r := dutK (kind g.2) r
  unitless _ := False
  amount g _ _ := amtK (kind g.2)
  payload g r d := payK P g.1.1 (kind g.2) r d
  amount_pos g r d _ := amtK_pos _

instance ringRd_storable (g : GSem nD τ sig) (r d : ℕ) : BI.Storable (upEmb : UEmb _ 𝕄) ((ringRd P).payload g r d) :=
  payK_storable P g.1.1 (kind g.2) r d

section Facts
variable (c : Dev nD) (k : Fin 4)

theorem duties_cell (x : Kd) (r : ℕ) : (ringRd P).duties (cell c x) r = dutK (some x) r := by
  show dutK (kind (smOf x)) r = _; rw [kind_smOf]
theorem amount_cell (x : Kd) (r d : ℕ) : (ringRd P).amount (cell c x) r d = amtK (some x) := by
  show amtK (kind (smOf x)) = _; rw [kind_smOf]
theorem payload_cell (x : Kd) (r d : ℕ) : (ringRd P).payload (cell c x) r d = payK P c (some x) r d := by
  show payK P c (kind (smOf x)) r d = _; rw [kind_smOf]

theorem two_div (u : ℕ) : 2 * (u / 2) + (slotOf u).val = u := by show 2 * (u / 2) + u % 2 = u; omega

theorem duties_bar : (ringRd P).duties (barC c) 0 = {0, 1} := (duties_cell P c none 0).trans rfl
theorem duties_recv (u : ℕ) (hu : u < 30) : (ringRd P).duties (recvC c k (slotOf u)) (u / 2) = {0} :=
  (duties_cell P c _ _).trans (by show (if 2 * (u / 2) + (slotOf u).val < 30 then _ else _) = _; rw [two_div, if_pos hu])
theorem duties_send (u : ℕ) (hu : u < 30) : (ringRd P).duties (sendC c k (slotOf u)) (u / 2) = {0} :=
  (duties_cell P c _ _).trans (by show (if 2 * (u / 2) + (slotOf u).val < 30 then _ else _) = _; rw [two_div, if_pos hu])
theorem duties_cred : (ringRd P).duties (credC c k) 0 = Finset.range 28 := (duties_cell P c _ 0).trans rfl

theorem amount_bar (d : ℕ) : (ringRd P).amount (barC c) 0 d = 1 := (amount_cell P c none 0 d).trans rfl
theorem amount_recv (b : Fin 2) (r d : ℕ) : (ringRd P).amount (recvC c k b) r d = N := (amount_cell P c _ r d).trans rfl
theorem amount_snd (b : Fin 2) (r d : ℕ) : (ringRd P).amount (sendC c k b) r d = N := (amount_cell P c _ r d).trans rfl
theorem amount_cred (r d : ℕ) : (ringRd P).amount (credC c k) r d = 1 := (amount_cell P c _ r d).trans rfl

theorem expect_bar : (ringRd P).expect (barC c) 0 = 2 := by
  unfold Schedule.expect Schedule.amountOf
  rw [duties_bar, Finset.sum_congr rfl fun d _ => amount_bar P c d]; rfl
theorem expect_recv (u : ℕ) (hu : u < 30) : (ringRd P).expect (recvC c k (slotOf u)) (u / 2) = N := by
  unfold Schedule.expect Schedule.amountOf
  rw [duties_recv P c k u hu, Finset.sum_singleton, amount_recv]
theorem expect_send (u : ℕ) (hu : u < 30) : (ringRd P).expect (sendC c k (slotOf u)) (u / 2) = N := by
  unfold Schedule.expect Schedule.amountOf
  rw [duties_send P c k u hu, Finset.sum_singleton, amount_snd]
theorem expect_cred : (ringRd P).expect (credC c k) 0 = 28 := by
  unfold Schedule.expect Schedule.amountOf
  rw [duties_cred, Finset.sum_congr rfl fun d _ => amount_cred P c k 0 d, Finset.sum_const, Finset.card_range]; rfl

theorem payload_bar_zero : (ringRd P).payload (barC c) 0 0 = opened (rightD c) 0 1 := (payload_cell P c none 0 0).trans rfl
theorem payload_bar_one : (ringRd P).payload (barC c) 0 1 = opened (leftD c) 2 3 := (payload_cell P c none 0 1).trans rfl
theorem payload_recv (u d : ℕ) : (ringRd P).payload (recvC c k (slotOf u)) (u / 2) d = recvPay P c k u :=
  (payload_cell P c _ _ d).trans (by show recvPay P c k (2 * (u / 2) + (slotOf u).val) = _; rw [two_div])
theorem payload_send (u d : ℕ) : (ringRd P).payload (sendC c k (slotOf u)) (u / 2) d = sendPay P c k u :=
  (payload_cell P c _ _ d).trans (by show sendPay P c k (2 * (u / 2) + (slotOf u).val) = _; rw [two_div])
theorem payload_cred (d : ℕ) : (ringRd P).payload (credC c k) 0 d = heard (nxt k c) k d := (payload_cell P c _ 0 d).trans rfl

theorem rest_bar : bigSep ((ringRd P).duties (barC c) 0 \ ∅) (fun d => (ringRd P).payload (barC c) 0 d)
    = iprop(opened (rightD c) 0 1 ∗ opened (leftD c) 2 3) := by
  rw [Finset.sdiff_empty, duties_bar, bigSep_insert (by decide), bigSep_singleton, payload_bar_zero, payload_bar_one]; rfl
theorem rest_recv (u : ℕ) (hu : u < 30) : bigSep ((ringRd P).duties (recvC c k (slotOf u)) (u / 2) \ ∅)
    (fun d => (ringRd P).payload (recvC c k (slotOf u)) (u / 2) d) = recvPay P c k u := by
  rw [Finset.sdiff_empty, duties_recv P c k u hu, bigSep_singleton, payload_recv]
theorem rest_send (u : ℕ) (hu : u < 30) : bigSep ((ringRd P).duties (sendC c k (slotOf u)) (u / 2) \ ∅)
    (fun d => (ringRd P).payload (sendC c k (slotOf u)) (u / 2) d) = sendPay P c k u := by
  rw [Finset.sdiff_empty, duties_send P c k u hu, bigSep_singleton, payload_send]

theorem closed_bar : ∀ r, 1 ≤ r → (ringRd P).duties (barC c) r = ∅ := fun r hr =>
  (duties_cell P c none r).trans (if_neg (by omega))
theorem closed_cred : ∀ r, 1 ≤ r → (ringRd P).duties (credC c k) r = ∅ := fun r hr =>
  (duties_cell P c _ r).trans (if_neg (by omega))
theorem closed_recv (b : Fin 2) : ∀ r, 15 ≤ r → (ringRd P).duties (recvC c k b) r = ∅ := fun r hr =>
  (duties_cell P c _ r).trans (if_neg (by omega))
theorem closed_send (b : Fin 2) : ∀ r, 15 ≤ r → (ringRd P).duties (sendC c k b) r = ∅ := fun r hr =>
  (duties_cell P c _ r).trans (if_neg (by omega))

end Facts

/-! ## Levels and debts -/

def L (g : GSem nD τ sig) : Finset ℕ := if g.1.2 = .tc then Finset.range 32 else ∅

def lvK : Option Kd → ℕ → ℕ
  | some none, _ => 1
  | some (some (_, .inl _)), u => 2 * u + 2
  | some (some (_, .inr (.inr _))), s => 2 * s + 3
  | _, _ => 0

/-- Barrier 1; the arrival of step `u` at `2 u + 2`; the credit of step `s` at `2 s + 3`; everything else 0. -/
def lv (g : GSem nD τ sig) (ι : ℕ) : ℕ := lvK (kind g.2) ι

theorem L_of_ne (g : GSem nD τ sig) (h : g.1.2 ≠ .tc) : L g = ∅ := if_neg h
theorem mem_L (c : Dev nD) (x : SemLoc sig) (ι : ℕ) (h : ι < 32) : ι ∈ L ((c : Thread nD τ), x) := by
  unfold L; rw [if_pos rfl]; exact Finset.mem_range.2 h
theorem lv_cell (c : Dev nD) (x : Kd) (ι : ℕ) : lv (cell c x) ι = lvK (some x) ι := by show lvK (kind (smOf x)) ι = _; rw [kind_smOf]

/-- Everything owed is above level `b`. -/
def Above (O : CellTallies nD τ sig ℕ) (b : ℕ) : Prop := ∀ g ι, 0 < O g ι → ι ∈ L g ∧ b < lv g ι

theorem above_zero (b : ℕ) : Above 0 b := fun g ι h => absurd h (Nat.lt_irrefl 0)
theorem above_add {O O' : CellTallies nD τ sig ℕ} {b : ℕ} (h : Above O b) (h' : Above O' b) : Above (O + O') b := fun g ι hp => by
  rw [Pi.add_apply, Finsupp.add_apply] at hp
  rcases Nat.eq_zero_or_pos (O g ι) with h0 | h0
  · exact h' g ι (by omega)
  · exact h g ι h0
theorem above_sum {I : Type} (s : Finset I) (D : I → CellTallies nD τ sig ℕ) {b : ℕ} (h : ∀ i ∈ s, Above (D i) b) : Above (∑ i ∈ s, D i) b := by
  classical
  induction s using Finset.induction_on with
  | empty => rw [Finset.sum_empty]; exact above_zero b
  | insert a s ha ih =>
    rw [Finset.sum_insert ha]
    exact above_add (h a (Finset.mem_insert_self _ _)) (ih fun i hi => h i (Finset.mem_insert_of_mem hi))
theorem above_tally (c : Dev nD) (x : Kd) (ι n : ℕ) {b : ℕ} (hι : ι < 32) (h : b < lvK (some x) ι) : Above (tallyAt (cell c x) ι n) b := fun g ι' hp => by
  rw [tallyAt_apply] at hp
  by_cases hg : g = cell c x ∧ ι' = ι
  · rw [hg.1, hg.2]; exact ⟨mem_L c _ ι hι, by rw [lv_cell]; exact h⟩
  · rw [if_neg hg] at hp; exact absurd hp (Nat.lt_irrefl 0)
theorem Above.mono {O : CellTallies nD τ sig ℕ} {b b' : ℕ} (h : Above O b) (hb : b' ≤ b) : Above O b' := fun g ι hp =>
  ⟨(h g ι hp).1, Nat.lt_of_le_of_lt hb (h g ι hp).2⟩

omit [FloatOps F] in
/-- A wait below everything owed is allowed. -/
theorem mayWait_of_above (c : Dev nD) (sm : SemLoc sig) (ι : ℕ) (hι : ι < 32) (O : CellTallies nD τ sig ℕ) (b : ℕ)
    (hl : lv ((c : Thread nD τ), sm) ι ≤ b) (h : Above O b) : (levAts L lv : sProp 𝕄) ⊢ MayWait (c : Thread nD τ) sm ι O :=
  MayOwe.of_cut (L := L) (lev := lv) b (fun p hp => by rw [Finset.mem_singleton.mp hp]; exact mem_L c sm ι hι)
    (fun g u hg => (h g u hg).1)
    (fun p hp => by rw [Finset.mem_singleton.mp hp]; exact hl)
    (fun g u hg => (h g u hg).2)

/-- What ring `k` of device `c` still owes at the start of step `s`, `t` its transfers begun: arrivals at the next device,
    credits at the one before. -/
def debt (k : Fin 4) (c : Dev nD) (t s : ℕ) : CellTallies nD τ sig ℕ :=
  (∑ u ∈ Finset.Ico t 30, tallyAt (recvC (nxt k c) k (slotOf u)) u N) + ∑ s' ∈ Finset.Ico s 28, tallyAt (credC (prv k c) k) s' 1

theorem debt_above (k : Fin 4) (c : Dev nD) (t s b : ℕ) (h1 : b < 2 * t + 2) (h2 : b < 2 * s + 3) : Above (debt k c t s) b :=
  above_add
    (above_sum _ _ fun u hu => above_tally _ _ _ _ (by have := Finset.mem_Ico.1 hu; omega) (by
      have := Finset.mem_Ico.1 hu; show b < 2 * u + 2; omega))
    (above_sum _ _ fun u hu => above_tally _ _ _ _ (by have := Finset.mem_Ico.1 hu; omega) (by
      have := Finset.mem_Ico.1 hu; show b < 2 * u + 3; omega))

theorem sum_first {M : Type} [AddCommMonoid M] {n R : ℕ} (h : n < R) (D : ℕ → M) :
    ∑ i ∈ Finset.Ico n R, D i = ∑ i ∈ Finset.Ico (n + 1) R, D i + D n := by
  rw [show Finset.Ico n R = insert n (Finset.Ico (n + 1) R) from by ext i; simp only [Finset.mem_insert, Finset.mem_Ico]; omega,
    Finset.sum_insert (by simp), add_comm]

theorem debt_send (k : Fin 4) (c : Dev nD) (t s : ℕ) (ht : t < 30) :
    debt k c t s = debt k c (t + 1) s + tallyAt (recvC (nxt k c) k (slotOf t)) t N := by
  unfold debt
  rw [sum_first ht, add_right_comm]
theorem debt_cred (k : Fin 4) (c : Dev nD) (t s : ℕ) (hs : s < 28) :
    debt k c t s = debt k c t (s + 1) + tallyAt (credC (prv k c) k) s 1 := by
  unfold debt
  rw [sum_first hs, add_assoc]
theorem debt_done (k : Fin 4) (c : Dev nD) (t s : ℕ) (ht : 30 ≤ t) (hs : 28 ≤ s) : debt k c t s = 0 := by
  unfold debt
  rw [Finset.Ico_eq_empty (by omega), Finset.Ico_eq_empty (by omega), Finset.sum_empty, Finset.sum_empty, add_zero]

end Cert.KernelProof

end
-- ==== Proof.Mem.lean ====
/-
# Reading and writing the buffers

The rectangles the kernel loads, stores and sends, as rows: what set of elements each is, what a read of it gives, and
what a write of it leaves. Segment `n` is rows `64 n .. 64 n + 63`; chunk `v` is rows `256 v .. 256 v + 255`.
-/
module

public import proofs.«01_k».proof.Proof.Sched
public import Idealize.ShloMosaic.Lib.Pipeline.ValueKit.Geometry

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-! ## Rows of the result buffer -/

section Rows
variable {n : ℕ} {off : Fin 2 → ℕ} {size : Fin 2 → ℕ}

theorem rows_mem {R v : ℕ} (hR : 0 < R) (ho : off = ![R * v, 0]) (hs : size = ![R, 2048]) (inb : ∀ a, off a + size a ≤ S4096x2048.size a)
    (i : S4096x2048.Idx) : i ∈ (oM.access (Rect.unit (s := S4096x2048) off size inb)).set ↔ (i 0).val / R = v := by
  subst ho hs
  have hm : i ∈ (oM.access (Rect.unit (s := S4096x2048) ![R * v, 0] ![R, 2048] inb)).set ↔ i ∈ (Rect.unit (s := S4096x2048) ![R * v, 0] ![R, 2048] inb).set := by
    rw [show (oM.access (Rect.unit (s := S4096x2048) ![R * v, 0] ![R, 2048] inb)).set = _ from View.set_slice_whole _ _]
  rw [hm, Rect.mem_set_unit]
  have h1 : (i 1).val < 2048 := (i 1).isLt
  constructor
  · intro h
    have h0 : R * v ≤ (i 0).val ∧ (i 0).val < R * v + R := h 0
    exact Nat.div_eq_of_lt_le (by rw [Nat.mul_comm]; exact h0.1) (by rw [Nat.add_mul, Nat.one_mul, Nat.mul_comm v R]; exact h0.2)
  · rintro h a
    fin_cases a
    · show R * v ≤ (i 0).val ∧ (i 0).val < R * v + R
      rw [← h]
      exact ⟨Nat.mul_div_le _ _, by have := Nat.lt_mul_div_succ (i 0).val hR; rw [Nat.mul_add, Nat.mul_one] at this; exact this⟩
    · show 0 ≤ (i 1).val ∧ (i 1).val < 0 + 2048
      omega

end Rows

/-! ## Segments -/

section Segs
variable {n : Fin 64} {off : Fin 2 → ℕ} (ho : off = ![64 * n.val, 0]) (inb : ∀ a, off a + S64x2048.size a ≤ S4096x2048.size a)

theorem segOf_iff (i : S4096x2048.Idx) (n : Fin 64) : segOf i = n ↔ (i 0).val / 64 = n.val := by
  constructor
  · rintro rfl; rfl
  · intro h; exact Fin.ext h

include ho in
theorem seg_set : (oM.access (Rect.unit (s := S4096x2048) off S64x2048.size inb)).set = hset {n} := by
  ext i
  rw [mem_hset, Finset.mem_singleton, segOf_iff]
  exact rows_mem (by decide) ho (by funext a; fin_cases a <;> rfl) inb i

include ho in
theorem seg_emb (j : S64x2048.Idx) : (oM.access (Rect.unit (s := S4096x2048) off S64x2048.size inb)).emb j
    = ix2 (n0 := 4096) (n1 := 2048) ⟨64 * n.val + (j 0).val, by have h : (j 0).val < 64 := (j 0).isLt; have := n.isLt; omega⟩ (j 1) := by
  subst ho
  funext a
  refine Fin.ext ?_
  refine (ValueKit.view_emb_slice_whole_unit_val (b := cc0_stg2_0) _ _ _ _ _).trans ?_
  fin_cases a
  · rfl
  · show 0 + (j 1).val = _; rw [Nat.zero_add]

include ho in
theorem seg_read (f : Vec F S4096x2048 .f32) : (oM.access (Rect.unit (s := S4096x2048) off S64x2048.size inb)).read (Elt F) f = segv f n := by
  funext j
  rw [View.read_apply, seg_emb ho inb j]; rfl

include ho in
theorem seg_write (f : Vec F S4096x2048 .f32) (w : Vec F S64x2048 .f32) (i : S4096x2048.Idx) (h : segOf i = n) :
    (oM.access (Rect.unit (s := S4096x2048) off S64x2048.size inb)).write (Elt F) f w Finset.univ i
      = w (ix2 (n0 := 64) (n1 := 2048) ⟨(i 0).val % 64, Nat.mod_lt _ (by decide)⟩ (i 1)) := by
  have he : (oM.access (Rect.unit (s := S4096x2048) off S64x2048.size inb)).emb
      (ix2 (n0 := 64) (n1 := 2048) ⟨(i 0).val % 64, Nat.mod_lt _ (by decide)⟩ (i 1)) = i := by
    rw [seg_emb ho inb]
    funext a
    refine Fin.ext ?_
    fin_cases a
    · have := (segOf_iff i n).1 h
      show 64 * n.val + (i 0).val % 64 = (i 0).val
      rw [← this]; omega
    · rfl
  conv_lhs => rw [← he]
  exact View.write_emb_of_mem _ _ (Finset.mem_univ _)

include ho in
theorem seg_write_ne (f : Vec F S4096x2048 .f32) (w : Vec F S64x2048 .f32) (i : S4096x2048.Idx) (h : segOf i ≠ n) :
    (oM.access (Rect.unit (s := S4096x2048) off S64x2048.size inb)).write (Elt F) f w Finset.univ i = f i :=
  View.write_of_not_mem _ _ _ (by
    show i ∉ (oM.access (Rect.unit (s := S4096x2048) off S64x2048.size inb)).set
    rw [seg_set ho inb, mem_hset, Finset.mem_singleton]; exact h)

end Segs

/-- A segment read at its own elements. -/
theorem segv_at (f : Vec F S4096x2048 .f32) (n : Fin 64) (i : S4096x2048.Idx) (h : segOf i = n) :
    segv f n (ix2 (n0 := 64) (n1 := 2048) ⟨(i 0).val % 64, Nat.mod_lt _ (by decide)⟩ (i 1)) = f i := by
  unfold segv
  refine congrArg f ?_
  funext a
  refine Fin.ext ?_
  fin_cases a
  · have := (segOf_iff i n).1 h
    show 64 * n.val + (i 0).val % 64 = (i 0).val
    rw [← this]; omega
  · rfl

theorem segv_congr {f g : Vec F S4096x2048 .f32} {n : Fin 64} (h : ∀ i, segOf i = n → f i = g i) : segv f n = segv g n := by
  funext j
  refine h _ ((segOf_iff _ n).2 ?_)
  show (64 * n.val + (j 0).val) / 64 = n.val
  have : (j 0).val < 64 := (j 0).isLt
  omega

/-! ## Chunks -/

section Chunks
variable {v : ℕ} {off : Fin 2 → ℕ} (ho : off = ![256 * v, 0]) (inb : ∀ a, off a + S256x2048.size a ≤ S4096x2048.size a)

include ho in
theorem chunk_mem (i : S4096x2048.Idx) : i ∈ (oM.access (Rect.unit (s := S4096x2048) off S256x2048.size inb)).set ↔ (i 0).val / 256 = v :=
  rows_mem (by decide) ho (by funext a; fin_cases a <;> rfl) inb i

include ho in
theorem chunk_write_ne (f : Vec F S4096x2048 .f32) (w : Vec F S256x2048 .f32) (i : S4096x2048.Idx) (h : (i 0).val / 256 ≠ v) :
    (oM.access (Rect.unit (s := S4096x2048) off S256x2048.size inb)).write (Elt F) f w Finset.univ i = f i :=
  View.write_of_not_mem _ _ _ (by
    show i ∉ (oM.access (Rect.unit (s := S4096x2048) off S256x2048.size inb)).set
    rw [chunk_mem ho inb]; exact h)

include ho in
theorem chunk_write (f : Vec F S4096x2048 .f32) (w : Vec F S256x2048 .f32) (i : S4096x2048.Idx) (h : (i 0).val / 256 = v) :
    (oM.access (Rect.unit (s := S4096x2048) off S256x2048.size inb)).write (Elt F) f w Finset.univ i
      = w (ix2 (n0 := 256) (n1 := 2048) ⟨(i 0).val % 256, Nat.mod_lt _ (by decide)⟩ (i 1)) := by
  have he : (oM.access (Rect.unit (s := S4096x2048) off S256x2048.size inb)).emb
      (ix2 (n0 := 256) (n1 := 2048) ⟨(i 0).val % 256, Nat.mod_lt _ (by decide)⟩ (i 1)) = i := by
    funext a
    refine Fin.ext ?_
    refine (ValueKit.view_emb_slice_whole_unit_val (b := cc0_stg2_0) _ _ _ _ _).trans ?_
    subst ho
    fin_cases a
    · show 256 * v + (i 0).val % 256 = (i 0).val
      rw [← h]; omega
    · show 0 + (i 1).val = (i 1).val; rw [Nat.zero_add]
  conv_lhs => rw [← he]
  exact View.write_emb_of_mem _ _ (Finset.mem_univ _)

end Chunks

/-- The rows of the activations a chunk product reads. -/
theorem x_read {v : ℕ} {off : Fin 2 → ℕ} (ho : off = ![256 * v, 0]) (inb : ∀ a, off a + S256x256.size a ≤ S4096x256.size a)
    (x : Vec F S4096x256 .f32) (hv : v < 16) :
    (xM.access (Rect.unit (s := S4096x256) off S256x256.size inb)).read (Elt F) x = fun j => x (ix2 (n0 := 4096) (n1 := 256)
      ⟨256 * v + (j 0).val, by have h : (j 0).val < 256 := (j 0).isLt; omega⟩ (j 1)) := by
  subst ho
  funext j
  rw [View.read_apply]
  refine congrArg x ?_
  funext a
  refine Fin.ext ?_
  refine (ValueKit.view_emb_slice_whole_unit_val (b := cc0_stg0_0) _ _ _ _ _).trans ?_
  fin_cases a
  · rfl
  · show 0 + (j 1).val = (j 1).val; rw [Nat.zero_add]

theorem w_read (w : Vec F S256x2048 .f32) :
    (wM.access (Rect.unit (s := S256x2048) ![0, 0] S256x2048.size inb_S256x2048_S256x2048_0_0)).read (Elt F) w = w := by
  funext j
  rw [View.read_apply]
  refine congrArg w ?_
  funext a
  refine Fin.ext ?_
  refine (ValueKit.view_emb_slice_whole_unit_val (b := cc0_stg1_0) _ _ _ _ _).trans ?_
  fin_cases a
  · show 0 + (j 0).val = (j 0).val; rw [Nat.zero_add]
  · show 0 + (j 1).val = (j 1).val; rw [Nat.zero_add]

/-- A chunk product, element by element. -/
theorem prod_at {v : ℕ} (hv : v < 16) (x : Vec F S4096x256 .f32) (w : Vec F S256x2048 .f32) (i : S4096x2048.Idx) (h : (i 0).val / 256 = v) :
    k0_pay1 (fun j : S256x256.Idx => x (ix2 (n0 := 4096) (n1 := 256)
      ⟨256 * v + (j 0).val, by have h : (j 0).val < 256 := (j 0).isLt; omega⟩ (j 1))) w
      (ix2 (n0 := 256) (n1 := 2048) ⟨(i 0).val % 256, Nat.mod_lt _ (by decide)⟩ (i 1)) = prod x w i := by
  subst h; rfl

/-! ## What ring `k` sends -/

theorem sendM_loc (k : Fin 4) (c c' : Dev nD) (u : ℕ) (hu : u < 30) : (sendM k c u hu).view.loc (c' : Thread nD τ) = oLoc c' := rfl

theorem sendM_set (k : Fin 4) (c : Dev nD) (u : ℕ) (hu : u < 30) : (sendM k c u hu).view.set = hset {sg k c u} :=
  seg_set (sendOff_eq k c ⟨u, hu⟩) (sendOff_inb k c ⟨u, hu⟩)

theorem sendM_read (k : Fin 4) (c : Dev nD) (u : ℕ) (hu : u < 30) (f : Vec F S4096x2048 .f32) :
    (sendM k c u hu).view.read (Elt F) f = segv f (sg k c u) :=
  seg_read (sendOff_eq k c ⟨u, hu⟩) (sendOff_inb k c ⟨u, hu⟩) f

/-- A segment sent onto itself. -/
theorem sendM_write (k : Fin 4) (c : Dev nD) (u : ℕ) (hu : u < 30) (f g : Vec F S4096x2048 .f32) (i : S4096x2048.Idx) (h : segOf i = sg k c u) :
    (sendM k c u hu).view.write (Elt F) f ((sendM k c u hu).view.read (Elt F) g) Finset.univ i = g i := by
  rw [sendM_read]
  exact (seg_write (sendOff_eq k c ⟨u, hu⟩) (sendOff_inb k c ⟨u, hu⟩) f _ i h).trans (segv_at g _ i h)

/-! ## A landing slot -/

theorem slot_loc (k : Fin 4) (b : Fin 2) (c : Dev nD) : ((rM k).access (slotRect b)).loc (c : Thread nD τ) = (slotM (rM k) b).view.loc (c : Thread nD τ) := rfl

theorem slot_set (r : Memref sig .tc .vmem S2x64x2048 .f32) (b : Fin 2) : (slotM r b).view.set = (r.access (slotRect b)).set :=
  View.set_reshape _ _

/-- The landed rows added to a segment. -/
theorem add_slot (r : Memref sig .tc .vmem S2x64x2048 .f32) (b : Fin 2) (f : r.view.ty.Contents (Elt F)) (ov V : Vec F S64x2048 .f32)
    (h : (slotM r b).view.read (Elt F) f = V) :
    k0_pay7 ov ((r.access (slotRect b)).read (Elt F) f) = addf ov V := by
  rw [← h, show (slotM r b).view.read (Elt F) f = _ from Memref.read_squeeze_slice r (slotRect b) _ squeezes_S1x64x2048_S64x2048 shapeCasts_S1x64x2048_S64x2048 f]
  show addf (shapeCast S64x2048 ov _) _ = _
  rw [shapeCast_self]; rfl

end Cert.KernelProof

end
-- ==== Proof.Ops.lean ====
/-
# The operations, one rule each

For a device `c` and a ring `k`, at any step: what each semaphore operation and each transfer of the body needs and leaves.
`Pers` is what every rule may use freely: the invariants of all cells and landing places, and the levels.
-/
module

public import proofs.«01_k».proof.Proof.Mem

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

abbrev 𝒱₀ : Variants := Variants.none

variable (P : Dev nD → Vec F S4096x2048 .f32) (κ : Dev nD × Kd → ℕ) (ιs : Key → ℕ)

/-- The landing places there are. -/
def keys : Finset Key := Finset.univ ×ˢ (Finset.univ ×ˢ Finset.range 30)

/-- What may be used freely: the invariants of the cells, at the names `κ`, all cells at round 0 or later; those of the
    landing places, at the names `ιs`; the levels. -/
def Pers : sProp 𝕄 := iprop(
  (bigSep Finset.univ fun cx : Dev nD × Kd => iprop(cellInv ER (ringRd P) (κ cx) (cell cx.1 cx.2) ∗ reached ER (cell cx.1 cx.2) 0))
  ∗ (bigSep keys fun x => slotInv ES (ιs x) x (place x)) ∗ levAts L lv)

instance pers_persistent : BI.Persistent (Pers P κ ιs) := by unfold Pers; infer_instance

theorem pers_inv (c : Dev nD) (x : Kd) : Pers P κ ιs ⊢ cellInv ER (ringRd P) (κ (c, x)) (cell c x) := by
  have h : (bigSep Finset.univ fun cx : Dev nD × Kd => iprop(cellInv ER (ringRd P) (κ cx) (cell cx.1 cx.2) ∗ reached ER (cell cx.1 cx.2) 0) : sProp 𝕄)
      ⊢ iprop(cellInv ER (ringRd P) (κ (c, x)) (cell c x) ∗ reached ER (cell c x) 0) := bigSep_elim (Finset.mem_univ (c, x))
  unfold Pers
  iintro ⟨H, -, -⟩
  ihave H' := h $$ H
  icases H' with ⟨H1, -⟩
  iexact H1

theorem pers_reached (c : Dev nD) (x : Kd) : Pers P κ ιs ⊢ reached ER (cell c x) 0 := by
  have h : (bigSep Finset.univ fun cx : Dev nD × Kd => iprop(cellInv ER (ringRd P) (κ cx) (cell cx.1 cx.2) ∗ reached ER (cell cx.1 cx.2) 0) : sProp 𝕄)
      ⊢ iprop(cellInv ER (ringRd P) (κ (c, x)) (cell c x) ∗ reached ER (cell c x) 0) := bigSep_elim (Finset.mem_univ (c, x))
  unfold Pers
  iintro ⟨H, -, -⟩
  ihave H' := h $$ H
  icases H' with ⟨-, H1⟩
  iexact H1

theorem pers_slot (c : Dev nD) (k : Fin 4) (u : ℕ) (hu : u < 30) : Pers P κ ιs ⊢ slotInv ES (ιs (c, k, u)) (c, k, u) (place (c, k, u)) := by
  have h : (bigSep keys fun x => slotInv ES (ιs x) x (place x) : sProp 𝕄) ⊢ slotInv ES (ιs (c, k, u)) (c, k, u) (place (c, k, u)) :=
    bigSep_elim (by unfold keys; simp [hu])
  unfold Pers
  iintro ⟨-, H, -⟩
  iapply h; iexact H

theorem pers_lev : Pers P κ ιs ⊢ (levAts L lv : sProp 𝕄) := by
  unfold Pers
  iintro ⟨-, -, H⟩
  iexact H

/-- A wait below everything owed is allowed. -/
theorem pers_mayWait (c : Dev nD) (sm : SemLoc sig) (ι : ℕ) (hι : ι < 32) (O : CellTallies nD τ sig ℕ) (b : ℕ)
    (hl : lv ((c : Thread nD τ), sm) ι ≤ b) (h : Above O b) : Pers P κ ιs ⊢ MayWait (c : Thread nD τ) sm ι O :=
  (pers_lev P κ ιs).trans (mayWait_of_above (F := F) c sm ι hι O b hl h)

/-- A device owes `O`. -/
def ow (c : Dev nD) (O : CellTallies nD τ sig ℕ) : sProp 𝕄 := iprop(∃ W, owes (c : Thread nD τ) O W)

abbrev wpK (c : Dev nD) (K : Cert.KernelProof.P F) (Q : PUnit → sProp 𝕄) : sProp 𝕄 :=
  wp frame (wpE (defs₀ (F := F)) 𝒱₀ (c : Thread nD τ) none) Set.univ K Q

variable (c : Dev nD) (k : Fin 4)

/-- A wait on the send semaphore of step `u`: the sent segment back. -/
theorem wp_sendWait (u : ℕ) (hu : u < 30) (K : Cert.KernelProof.P F) (Q : PUnit → sProp 𝕄) (O : CellTallies nD τ sig ℕ) (hO : Above O 0) :
    iprop(Pers P κ ιs ∗ cred (tallyAt (sendC c k (slotOf u)) 0 N) ∗ atPos ER (sendC c k (slotOf u)) (u / 2) ∅ 0 ∗ ow c O)
      ⊢ iprop(((atPos ER (sendC c k (slotOf u)) (u / 2 + 1) ∅ 0 ∗ reached ER (sendC c k (slotOf u)) (u / 2 + 1) ∗ sendPay P c k u ∗ ow c O) -∗ wpK c K Q)
        -∗ wpK c (waitSend k c u hu (slotOf u) K) Q) := by
  have hrule : ∀ {w : TpuEff nD τ sig (Elt F) Λ₀ .tc PUnit}
      (hw : ∀ K' : PUnit → sProp 𝕄, wpE (defs₀ (F := F)) 𝒱₀ (c : Thread nD τ) none Set.univ w K' = waitSpec (c : Thread nD τ) Set.univ (smOf (some (k, .inr (.inl (slotOf u))))) N K'),
      iprop(Pers P κ ιs ∗ cred (tallyAt (sendC c k (slotOf u)) 0 N) ∗ atPos ER (sendC c k (slotOf u)) (u / 2) ∅ 0 ∗ ow c O)
      ⊢ iprop(((atPos ER (sendC c k (slotOf u)) (u / 2 + 1) ∅ 0 ∗ reached ER (sendC c k (slotOf u)) (u / 2 + 1) ∗ sendPay P c k u ∗ ow c O) -∗ wpK c K Q)
        -∗ wpK c (.op w fun _ => K) Q) := by
    intro w hw
    unfold ow
    iintro ⟨#HP, Hc, Hat, ⟨%W, HO⟩⟩ Hk
    iapply (Rounds.wp_wait_rest_token 𝒱₀ ER (ringRd P) (c : Thread nD τ) none (κ := κ (c, some (k, .inr (.inl (slotOf u))))) hw (Set.mem_univ _) 0 (O := O) (W := W)
      (R := u / 2) (m := 0) (T := ∅) (by rw [Nat.zero_add]; exact (expect_send P c k u hu).symm)) $$ [Hc Hat HO]
    · isplitr; · iapply (pers_inv P κ ιs c (some (k, .inr (.inl (slotOf u))))); iexact HP
      isplitl [Hc]; · iexact Hc
      isplitl [HO]; · iexact HO
      isplitr
      · iapply (pers_mayWait P κ ιs c (smOf (some (k, .inr (.inl (slotOf u))))) 0 (by decide) O 0 (le_of_eq (lv_cell c (some (k, .inr (.inl (slotOf u)))) 0)) hO); iexact HP
      iexact Hat
    iintro ⟨HO, Hat, Hr, Hpay⟩
    ihave Hpay := (Entails.of_eq (rest_send P c k u hu)) $$ Hpay
    iapply Hk
    isplitl [Hat]; · iexact Hat
    isplitl [Hr]; · iexact Hr
    isplitl [Hpay]; · iexact Hpay
    iexists _; iexact HO
  unfold waitSend
  split
  · exact hrule fun K' => (wpE_waitDma2_eq 𝒱₀ (c : Thread nD τ) none Set.univ K').trans
      (congrArg (fun n => waitSpec (c : Thread nD τ) Set.univ (.dma (sendS k (slotOf u))) n K') (amount_slot k (slotOf u) (sendS k (slotOf u))))
  · exact hrule fun K' => (wpE_waitDma2_eq 𝒱₀ (c : Thread nD τ) none Set.univ K').trans
      (congrArg (fun n => waitSpec (c : Thread nD τ) Set.univ (.dma (sendS k (slotOf u))) n K') (amount_send k c u hu (sendS k (slotOf u))))

/-- A wait on the receive semaphore of step `s`: what arrived. -/
theorem wp_recvWait (s : ℕ) (hs : s < 30) (K : Cert.KernelProof.P F) (Q : PUnit → sProp 𝕄) (O : CellTallies nD τ sig ℕ) (hO : Above O (2 * s + 2)) :
    iprop(Pers P κ ιs ∗ cred (tallyAt (recvC c k (slotOf s)) s N) ∗ atPos ER (recvC c k (slotOf s)) (s / 2) ∅ 0 ∗ ow c O)
      ⊢ iprop(((atPos ER (recvC c k (slotOf s)) (s / 2 + 1) ∅ 0 ∗ reached ER (recvC c k (slotOf s)) (s / 2 + 1) ∗ recvPay P c k s ∗ ow c O) -∗ wpK c K Q)
        -∗ wpK c (waitRecv k c s hs (slotOf s) K) Q) := by
  have hrule : ∀ {w : TpuEff nD τ sig (Elt F) Λ₀ .tc PUnit}
      (hw : ∀ K' : PUnit → sProp 𝕄, wpE (defs₀ (F := F)) 𝒱₀ (c : Thread nD τ) none Set.univ w K' = waitSpec (c : Thread nD τ) Set.univ (smOf (some (k, .inl (slotOf s)))) N K'),
      iprop(Pers P κ ιs ∗ cred (tallyAt (recvC c k (slotOf s)) s N) ∗ atPos ER (recvC c k (slotOf s)) (s / 2) ∅ 0 ∗ ow c O)
      ⊢ iprop(((atPos ER (recvC c k (slotOf s)) (s / 2 + 1) ∅ 0 ∗ reached ER (recvC c k (slotOf s)) (s / 2 + 1) ∗ recvPay P c k s ∗ ow c O) -∗ wpK c K Q)
        -∗ wpK c (.op w fun _ => K) Q) := by
    intro w hw
    unfold ow
    iintro ⟨#HP, Hc, Hat, ⟨%W, HO⟩⟩ Hk
    iapply (Rounds.wp_wait_rest_token 𝒱₀ ER (ringRd P) (c : Thread nD τ) none (κ := κ (c, some (k, .inl (slotOf s)))) hw (Set.mem_univ _) s (O := O) (W := W)
      (R := s / 2) (m := 0) (T := ∅) (by rw [Nat.zero_add]; exact (expect_recv P c k s hs).symm)) $$ [Hc Hat HO]
    · isplitr; · iapply (pers_inv P κ ιs c (some (k, .inl (slotOf s)))); iexact HP
      isplitl [Hc]; · iexact Hc
      isplitl [HO]; · iexact HO
      isplitr
      · iapply (pers_mayWait P κ ιs c (smOf (some (k, .inl (slotOf s)))) s (by omega) O (2 * s + 2) (le_of_eq (lv_cell c (some (k, .inl (slotOf s))) s)) hO); iexact HP
      iexact Hat
    iintro ⟨HO, Hat, Hr, Hpay⟩
    ihave Hpay := (Entails.of_eq (rest_recv P c k s hs)) $$ Hpay
    iapply Hk
    isplitl [Hat]; · iexact Hat
    isplitl [Hr]; · iexact Hr
    isplitl [Hpay]; · iexact Hpay
    iexists _; iexact HO
  unfold waitRecv
  split
  · exact hrule fun K' => (wpE_waitDma2_eq 𝒱₀ (c : Thread nD τ) none Set.univ K').trans
      (congrArg (fun n => waitSpec (c : Thread nD τ) Set.univ (.dma (recvS k (slotOf s))) n K') (amount_slot k (slotOf s) (recvS k (slotOf s))))
  · exact hrule fun K' => (wpE_waitDma2_eq 𝒱₀ (c : Thread nD τ) none Set.univ K').trans
      (congrArg (fun n => waitSpec (c : Thread nD τ) Set.univ (.dma (recvS k (slotOf s))) n K') (amount_send k c s hs (recvS k (slotOf s))))

/-! ## Credits -/

/-- After `m` credit waits: which credits have been taken is not known, only that they leave no more than `28 - m`, and what
    those taken say. -/
def credAt (c : Dev nD) (k : Fin 4) (m : ℕ) : sProp 𝕄 :=
  iprop(∃ T : Finset ℕ, ⌜T ⊆ Finset.range 28 ∧ m + (Finset.range 28 \ T).card ≤ 28⌝ ∗ atPos ER (credC c k) 0 T m
    ∗ bigSep T fun d => heard (nxt k c) k d)

theorem credAt_zero : atPos ER (credC c k) 0 ∅ 0 ⊢ (credAt c k 0 : sProp 𝕄) := by
  unfold credAt
  iintro H
  iexists ∅
  isplitr
  · ipureintro; exact ⟨Finset.empty_subset _, by rw [Finset.sdiff_empty, Finset.card_range]⟩
  isplitl [H]; · iexact H
  rw [bigSep_empty]; iempintro

/-- Of `m + 1` credits one at least is of step `m` or later. -/
theorem some_late {T : Finset ℕ} {m : ℕ} (h : T ⊆ Finset.range 28) (hc : m + 1 + (Finset.range 28 \ T).card ≤ 28) : ∃ d ∈ T, m ≤ d := by
  by_contra hn
  push Not at hn
  have h1 : T ⊆ Finset.range m := fun d hd => Finset.mem_range.2 (hn d hd)
  have h2 := Finset.card_le_card h1
  have h3 := Finset.card_sdiff_add_card_eq_card h
  rw [Finset.card_range] at h2 h3
  omega

/-- The credit wait before step `u = m + 2`: that step's landing place is free. -/
theorem wp_creditWait (m : ℕ) (hm : m < 28) (K : Cert.KernelProof.P F) (Q : PUnit → sProp 𝕄) (O : CellTallies nD τ sig ℕ) (hO : Above O (2 * m + 3)) :
    iprop(Pers P κ ιs ∗ cred (tallyAt (credC c k) m 1) ∗ credAt c k m ∗ ow c O)
      ⊢ iprop(((credAt c k (m + 1) ∗ avail (nxt k c) k (m + 2) ∗ ow c O) -∗ wpK c K Q)
        -∗ wpK c (.op (.semWait (csem k) (1#32 : BitVec 32).toInt) fun _ => K) Q) := by
  unfold ow credAt
  iintro ⟨#HP, Hc, ⟨%T, %hT, Hat, #HT⟩, ⟨%W, HO⟩⟩ Hk
  iapply (Rounds.wp_wait 𝒱₀ ER (ringRd P) (c : Thread nD τ) none (κ := κ (c, some (k, .inr (.inr ()))))
    (sm := smOf (some (k, .inr (.inr ())))) (k' := 1) (wpE_semWait_eq 𝒱₀ (c : Thread nD τ) none Set.univ) (Set.mem_univ _) (cr := Finsupp.single m 1) (O := O) (W := W)
    {(smOf (some (k, .inr (.inr ()))), m)} (R := 0) (m := m) (T := T) (by rw [Util.total_single]) (image_single_subset _ m 1)) $$ [Hc Hat HO]
  · isplitr; · iapply (pers_inv P κ ιs c (some (k, .inr (.inr ())))); iexact HP
    isplitl [Hc]; · iexact Hc
    isplitl [HO]; · iexact HO
    isplitr
    · iapply (pers_mayWait P κ ιs c (smOf (some (k, .inr (.inr ())))) m (by omega) O (2 * m + 3) (le_of_eq (lv_cell c (some (k, .inr (.inr ()))) m)) hO); iexact HP
    iexact Hat
  iintro %S ⟨%hS, HO, Hat, Hpay⟩
  have hS1 : S ⊆ Finset.range 28 := by rw [← duties_cred P c k]; exact hS.2.1
  have hS2 : m + 1 + (Finset.range 28 \ S).card ≤ 28 := by
    have h := hS.2.2
    rw [expect_cred P c k, duties_cred P c k] at h
    exact h
  ihave #HS := (Entails.of_eq (bigSep_congr (s := S \ T) fun d _ => payload_cred P c k d)) $$ Hpay
  have hjoin : iprop(bigSep T (fun d => heard (nxt k c) k d) ∗ bigSep (S \ T) (fun d => heard (nxt k c) k d)) ⊢ (bigSep S (fun d => heard (nxt k c) k d) : sProp 𝕄) :=
    Entails.of_eq ((bigSep_union Finset.disjoint_sdiff).symm.trans (by rw [Finset.union_sdiff_of_subset hS.1]))
  ihave #HA := hjoin $$ [HT HS]
  · isplitr; · iexact HT
    iexact HS
  obtain ⟨d, hd, hmd⟩ := some_late hS1 hS2
  have hel : (bigSep S (fun d => heard (nxt k c) k d) : sProp 𝕄) ⊢ avail (nxt k c) k (m + 2) :=
    (bigSep_elim hd).trans (by unfold heard; exact bigSep_elim (Φ := fun j => avail (nxt k c) k (j + 2)) (Finset.mem_range.2 (Nat.lt_succ_of_le hmd)))
  iapply Hk
  isplitl [Hat]
  · iexists S
    isplitr; · ipureintro; exact ⟨hS1, hS2⟩
    isplitl [Hat]; · iexact Hat
    iexact HA
  isplitr; · iapply hel; iexact HA
  iexists _; iexact HO

/-- The credit of step `s`. -/
theorem wp_credit (s : ℕ) (hs : s < 28) (K : Cert.KernelProof.P F) (Q : PUnit → sProp 𝕄) (O : CellTallies nD τ sig ℕ) :
    iprop(Pers P κ ιs ∗ dutyTok ER (credC (prv k c) k) 0 s ∗ heard c k s ∗ ow c (O + tallyAt (credC (prv k c) k) s 1))
      ⊢ iprop((ow c O -∗ wpK c K Q) -∗ wpK c (signal (prv k c) (csem k) K) Q) := by
  unfold ow signal
  iintro ⟨#HP, Ht, Hh, ⟨%W, HO⟩⟩ Hk
  iapply (Rounds.wp_signal 𝒱₀ ER (ringRd P) (c : Thread nD τ) none (dst := (prv k c : Thread nD τ)) (κ := κ (prv k c, some (k, .inr (.inr ()))))
      (sem := csem k) (r := 0) (d := s) (by rw [show (ringRd P).duties ((prv k c : Thread nD τ), SemLoc.reg (csem k)) 0 = Finset.range 28 from duties_cred P (prv k c) k]; exact Finset.mem_range.2 hs)
      ((amount_cred P (prv k c) k 0 s).trans (by decide)) s O rfl) $$ [Ht Hh HO]
  · isplitr; · iapply (pers_inv P κ ιs (prv k c) (some (k, .inr (.inr ())))); iexact HP
    isplitl [HO]; · iexact HO
    isplitl [Ht]; · iexact Ht
    isplitl [Hh]
    · rw [show (ringRd P).payload ((prv k c : Thread nD τ), SemLoc.reg (csem k)) 0 s = heard c k s from (payload_cred P (prv k c) k s).trans (by rw [nxt_prv])]
      iexact Hh
    iapply (pers_reached P κ ιs (prv k c) (some (k, .inr (.inr ())))); iexact HP
  iintro HO
  iapply Hk
  iexists W; iexact HO

end Cert.KernelProof

end
-- ==== Proof.Buf.lean ====
/-
# The loads and stores of the body

The rules for the two kinds of arithmetic in the body, on the part of the result buffer a device holds: a chunk product
(`wp_compute`, `wp_computes`) and the addition of a landed segment (`wp_accum`); and the taking out and putting back of one
segment.
-/
module

public import proofs.«01_k».proof.Proof.Ops

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

variable (P : Dev nD → Vec F S4096x2048 .f32)
variable (c : Dev nD) (k : Fin 4)

/-! ## One segment out, one segment in -/

theorem oPt_take {H : Finset (Fin 64)} {n : Fin 64} (h : n ∈ H) (f : Vec F S4096x2048 .f32) :
    (oPt c H f : sProp 𝕄) ⊢ iprop(oPt c {n} f ∗ oPt c (H.erase n) f) := by
  have hd : hset H \ hset {n} = hset (H.erase n) := by
    ext i; simp only [Finset.mem_sdiff, mem_hset, Finset.mem_singleton, Finset.mem_erase]; exact and_comm
  have hs : hset {n} ⊆ hset H := fun i hi => mem_hset.2 (by rw [Finset.mem_singleton.1 (mem_hset.1 hi)]; exact h)
  unfold oPt
  rw [← hd]
  exact (pointsTo_split_subset hs).1

theorem oPt_put {H : Finset (Fin 64)} {n : Fin 64} (h : n ∉ H) (f g : Vec F S4096x2048 .f32) :
    (iprop(oPt c {n} g ∗ oPt c H f) : sProp 𝕄) ⊢ oPt c (insert n H) (fun i => if segOf i = n then g i else f i) := by
  have hs : hset {n} ⊆ hset (insert n H) := fun i hi => mem_hset.2 (by rw [Finset.mem_singleton.1 (mem_hset.1 hi)]; exact Finset.mem_insert_self _ _)
  have hd : hset (insert n H) \ hset {n} = hset H := by
    ext i; simp only [Finset.mem_sdiff, mem_hset, Finset.mem_singleton, Finset.mem_insert]
    constructor
    · rintro ⟨h1, h2⟩; exact h1.resolve_left h2
    · intro h1; exact ⟨.inr h1, fun h2 => h (h2 ▸ h1)⟩
  unfold oPt
  have hj := pointsTo_join_subset (nD := nD) (τ := τ) (sig := sig) (Ix := ℕ) (Val := Elt F) (Name := ℕ) (U := UU) (Lvl := ℕ) (ℓ := oLoc c) (q := fullShare) (g := g) (f := f) hs
  rw [hd] at hj
  refine hj.trans (Entails.of_eq (pointsTo_congr fun i _ => ?_))
  by_cases hi : segOf i = n
  · rw [if_pos hi]; exact Finset.piecewise_eq_of_mem _ _ _ (mem_hset.2 (Finset.mem_singleton.2 hi))
  · rw [if_neg hi]; exact Finset.piecewise_eq_of_notMem _ _ _ fun h' => hi (Finset.mem_singleton.1 (mem_hset.1 h'))

/-- A segment changed to `W`. -/
def updSeg (f : Vec F S4096x2048 .f32) (n : Fin 64) (W : Vec F S64x2048 .f32) : Vec F S4096x2048 .f32 := fun i =>
  if segOf i = n then W (ix2 (n0 := 64) (n1 := 2048) ⟨(i 0).val % 64, Nat.mod_lt _ (by decide)⟩ (i 1)) else f i

theorem seg_write_eq {n : Fin 64} {off : Fin 2 → ℕ} (ho : off = ![64 * n.val, 0]) (inb : ∀ a, off a + S64x2048.size a ≤ S4096x2048.size a)
    (f : Vec F S4096x2048 .f32) (W : Vec F S64x2048 .f32) :
    (oM.access (Rect.unit (s := S4096x2048) off S64x2048.size inb)).write (Elt F) f W Finset.univ = updSeg f n W := by
  funext i
  unfold updSeg
  by_cases h : segOf i = n
  · rw [if_pos h]; exact seg_write ho inb f W i h
  · rw [if_neg h]; exact seg_write_ne ho inb f W i h

/-- A load of slot `b` of a receive buffer. -/
theorem slot_load (r : Memref sig .tc .vmem S2x64x2048 .f32) (b : Fin 2) (g : Buf (Elt F) ((slotM r b).view.loc (c : Thread nD τ)))
    {hl : r.view.LoadsAt (slotRect b).toLoadRect} {K : ((slotRect b).shape.Idx → Elt F .f32) → Cert.KernelProof.P F} {Q : PUnit → sProp 𝕄} :
    ((slotM r b).view.loc (c : Thread nD τ) ↦[(slotM r b).view.set]{fullShare} g)
      ⊢ iprop((((slotM r b).view.loc (c : Thread nD τ) ↦[(slotM r b).view.set]{fullShare} g) -∗ wpK c (K ((r.access (slotRect b)).read (Elt F) g)) Q)
        -∗ wpK c (.op (.load r (slotRect b).toLoadRect hl) K) Q) :=
  wp_load_rect 𝒱₀ (c : Thread nD τ) none Set.univ (m := r) (r := slotRect b) (hl := hl) (k := K) (Q := Q)
    (S := (slotM r b).view.set) (q := fullShare) (f := g) (subset_of_eq (slot_set r b).symm)

/-- The addition of a landed segment `V` to segment `n`. -/
theorem wp_accum (s : ℕ) (h15 : s < 15) (H : Finset (Fin 64)) (hn : sg k c (s + 1) ∈ H) (f : Vec F S4096x2048 .f32) (V : Vec F S64x2048 .f32)
    (K : Cert.KernelProof.P F) (Q : PUnit → sProp 𝕄) :
    iprop(owns (c : Thread nD τ) (slotM (rM k) (slotOf s)) fullShare V ∗ oPt c H f)
      ⊢ iprop(((owns (c : Thread nD τ) (slotM (rM k) (slotOf s)) fullShare V ∗ oPt c H (updSeg f (sg k c (s + 1)) (addf (segv f (sg k c (s + 1))) V))) -∗ wpK c K Q)
        -∗ wpK c (accum k c s (slotOf s) K) Q) := by
  have ho := recvOff_eq k c ⟨s, h15⟩
  have hsub : (oM.access (Rect.unit (s := S4096x2048) (recvOff k c s) S64x2048.size (recvOff_inb k c ⟨s, h15⟩))).set ⊆ hset H := by
    rw [seg_set (n := sg k c (s + 1)) ho (recvOff_inb k c ⟨s, h15⟩)]
    exact fun i hi => mem_hset.2 (by rw [Finset.mem_singleton.1 (mem_hset.1 hi)]; exact hn)
  unfold accum oPt owns
  rw [dif_pos h15]
  iintro ⟨⟨%g, %hg, Hs⟩, Ho⟩ Hk
  iapply (wp_load_rect 𝒱₀ (c : Thread nD τ) none Set.univ (m := oM) hsub) $$ Ho
  iintro Ho
  iapply (slot_load c (rM k) (slotOf s) g) $$ Hs
  iintro Hs
  iapply (wp_load_rect 𝒱₀ (c : Thread nD τ) none Set.univ (m := oM) hsub) $$ Ho
  iintro Ho
  iapply (wp_store 𝒱₀ (c : Thread nD τ) none Set.univ (m := oM) (Mk := Finset.univ) hsub) $$ Ho
  iintro Ho
  rw [add_slot (rM k) (slotOf s) g _ V hg, seg_read (n := sg k c (s + 1)) ho (recvOff_inb k c ⟨s, h15⟩) f,
    seg_write_eq (n := sg k c (s + 1)) ho (recvOff_inb k c ⟨s, h15⟩)]
  iapply Hk
  isplitl [Hs]
  · iexists g
    isplitr; · ipureintro; exact hg
    iexact Hs
  iexact Ho

/-! ## Chunk products -/

abbrev xPt (c : Dev nD) (x : Vec F S4096x256 .f32) : sProp 𝕄 := ((c : Thread nD τ).loc cc0_stg0_0) ↦{fullShare} x
abbrev wPt (c : Dev nD) (w : Vec F S256x2048 .f32) : sProp 𝕄 := ((c : Thread nD τ).loc cc0_stg1_0) ↦{fullShare} w

theorem xPt_eq (x : Vec F S4096x256 .f32) (r : Rect S4096x256) : (xPt c x : sProp 𝕄) = ((xM.access r).loc (c : Thread nD τ) ↦[Finset.univ]{fullShare} x) := rfl
theorem wPt_eq (w : Vec F S256x2048 .f32) (r : Rect S256x2048) : (wPt c w : sProp 𝕄) = ((wM.access r).loc (c : Thread nD τ) ↦[Finset.univ]{fullShare} w) := rfl

/-- Chunk `v` changed to that of `g`. -/
def setChunk (v : ℕ) (g f : Vec F S4096x2048 .f32) : Vec F S4096x2048 .f32 := fun i => if (i 0).val / 256 = v then g i else f i

theorem chunk_write_eq {v : ℕ} (hv : v < 16) {xo oo : Fin 2 → ℕ} (hxo : xo = ![256 * v, 0]) (hoo : oo = ![256 * v, 0])
    (xinb : ∀ a, xo a + S256x256.size a ≤ S4096x256.size a) (oinb : ∀ a, oo a + S256x2048.size a ≤ S4096x2048.size a)
    (x : Vec F S4096x256 .f32) (w : Vec F S256x2048 .f32) (f : Vec F S4096x2048 .f32) :
    (oM.access (Rect.unit (s := S4096x2048) oo S256x2048.size oinb)).write (Elt F) f
        (k0_pay1 ((xM.access (Rect.unit (s := S4096x256) xo S256x256.size xinb)).read (Elt F) x)
          ((wM.access (Rect.unit (s := S256x2048) ![0, 0] S256x2048.size inb_S256x2048_S256x2048_0_0)).read (Elt F) w)) Finset.univ
      = setChunk v (prod x w) f := by
  funext i
  unfold setChunk
  by_cases h : (i 0).val / 256 = v
  · rw [if_pos h, chunk_write hoo oinb f _ i h, x_read hxo xinb x hv, w_read w]; exact prod_at hv x w i h
  · rw [if_neg h]; exact chunk_write_ne hoo oinb f _ i h

/-- One chunk product. -/
theorem wp_compute {v : ℕ} (hv : v < 16) {xo oo : Fin 2 → ℕ} (hxo : xo = ![256 * v, 0]) (hoo : oo = ![256 * v, 0])
    (xinb : ∀ a, xo a + S256x256.size a ≤ S4096x256.size a) (oinb : ∀ a, oo a + S256x2048.size a ≤ S4096x2048.size a)
    (H : Finset (Fin 64)) (hH : ∀ i : S4096x2048.Idx, (i 0).val / 256 = v → segOf i ∈ H)
    (x : Vec F S4096x256 .f32) (w : Vec F S256x2048 .f32) (f : Vec F S4096x2048 .f32) (K : Cert.KernelProof.P F) (Q : PUnit → sProp 𝕄) :
    iprop(xPt c x ∗ wPt c w ∗ oPt c H f)
      ⊢ iprop(((xPt c x ∗ wPt c w ∗ oPt c H (setChunk v (prod x w) f)) -∗ wpK c K Q) -∗ wpK c (compute xo xinb oo oinb K) Q) := by
  have hsub : (oM.access (Rect.unit (s := S4096x2048) oo S256x2048.size oinb)).set ⊆ hset H := fun i hi =>
    mem_hset.2 (hH i ((chunk_mem hoo oinb i).1 hi))
  unfold compute oPt
  iintro ⟨Hx, Hw, Ho⟩ Hk
  ihave Hx := (Entails.of_eq (xPt_eq c x (Rect.unit (s := S4096x256) xo S256x256.size xinb))) $$ Hx
  iapply (wp_load_rect 𝒱₀ (c : Thread nD τ) none Set.univ (m := xM) (Finset.subset_univ _)) $$ Hx
  iintro Hx
  ihave Hx := (Entails.of_eq (xPt_eq c x (Rect.unit (s := S4096x256) xo S256x256.size xinb)).symm) $$ Hx
  ihave Hw := (Entails.of_eq (wPt_eq c w (Rect.unit (s := S256x2048) ![0, 0] S256x2048.size inb_S256x2048_S256x2048_0_0))) $$ Hw
  iapply (wp_load_rect 𝒱₀ (c : Thread nD τ) none Set.univ (m := wM) (Finset.subset_univ _)) $$ Hw
  iintro Hw
  ihave Hw := (Entails.of_eq (wPt_eq c w (Rect.unit (s := S256x2048) ![0, 0] S256x2048.size inb_S256x2048_S256x2048_0_0)).symm) $$ Hw
  iapply (wp_load_rect 𝒱₀ (c : Thread nD τ) none Set.univ (m := oM) hsub) $$ Ho
  iintro Ho
  iapply (wp_store 𝒱₀ (c : Thread nD τ) none Set.univ (m := oM) (Mk := Finset.univ) hsub) $$ Ho
  iintro Ho
  rw [chunk_write_eq hv hxo hoo xinb oinb x w f]
  iapply Hk
  isplitl [Hx]; · iexact Hx
  isplitl [Hw]; · iexact Hw
  iexact Ho

/-- What a device holds of its result buffer, the rings at the steps `σ`, the chunk products of `p` steps done. -/
def Out (c : Dev nD) (p : ℕ) (σ : Fin 4 → ℕ) : sProp 𝕄 := iprop(∃ f, ⌜Good P c p σ f⌝ ∗ oPt c (held c σ) f)

/-- The chunk products before step `s`. -/
theorem wp_computes (s : ℕ) (x : Vec F S4096x256 .f32) (w : Vec F S256x2048 .f32) (hP : P c = prod x w)
    (K : Cert.KernelProof.P F) (Q : PUnit → sProp 𝕄) :
    iprop(xPt c x ∗ wPt c w ∗ Out P c s (fun _ => s))
      ⊢ iprop(((xPt c x ∗ wPt c w ∗ Out P c (s + 1) (fun _ => s)) -∗ wpK c K Q) -∗ wpK c (computes c s K) Q) := by
  unfold computes Out
  iintro ⟨Hx, Hw, ⟨%f, %hf, Ho⟩⟩ Hk
  by_cases h7 : s < 7
  · rw [dif_pos h7]
    iapply (wp_compute c (v := (c.val + 15 - s) % 16) (Nat.mod_lt _ (by decide)) (off5_eq c ⟨s, h7⟩) (off6_eq c ⟨s, h7⟩) _ _ (held c fun _ => s)
      (fun i hi => comp_mem (by omega) i (.inl hi)) x w f) $$ [Hx Hw Ho]
    · isplitl [Hx]; · iexact Hx
      isplitl [Hw]; · iexact Hw
      iexact Ho
    iintro ⟨Hx, Hw, Ho⟩
    iapply (wp_compute c (v := (c.val + 1 + s) % 16) (Nat.mod_lt _ (by decide)) (off7_eq c ⟨s, h7⟩) (off8_eq c ⟨s, h7⟩) _ _ (held c fun _ => s)
      (fun i hi => comp_mem (by omega) i (.inr hi)) x w _) $$ [Hx Hw Ho]
    · isplitl [Hx]; · iexact Hx
      isplitl [Hw]; · iexact Hw
      iexact Ho
    iintro ⟨Hx, Hw, Ho⟩
    iapply Hk
    isplitl [Hx]; · iexact Hx
    isplitl [Hw]; · iexact Hw
    iexists _
    isplitr
    rotate_left
    · iexact Ho
    ipureintro
    refine good_comp P (by omega) hf (fun i hi => ?_) (fun i hi => ?_)
    · unfold setChunk
      rw [hP]
      by_cases h2 : (i 0).val / 256 = (c.val + 1 + s) % 16
      · rw [if_pos h2]
      · rw [if_neg h2, if_pos (hi.resolve_right h2)]
    · unfold setChunk
      rw [if_neg fun h => hi (.inr h), if_neg fun h => hi (.inl h)]
  · rw [dif_neg h7]
    by_cases h8 : s = 7
    · subst h8
      rw [if_pos rfl]
      iapply (wp_compute c (v := (c.val + 8) % 16) (Nat.mod_lt _ (by decide)) (off11_eq c) (off12_eq c) _ _ (held c fun _ => 7)
        (fun i hi => comp_mem (by decide) i (.inl hi)) x w f) $$ [Hx Hw Ho]
      · isplitl [Hx]; · iexact Hx
        isplitl [Hw]; · iexact Hw
        iexact Ho
      iintro ⟨Hx, Hw, Ho⟩
      iapply Hk
      isplitl [Hx]; · iexact Hx
      isplitl [Hw]; · iexact Hw
      iexists _
      isplitr
      rotate_left
      · iexact Ho
      ipureintro
      refine good_comp P (by omega) hf (fun i hi => ?_) (fun i hi => ?_)
      · unfold setChunk
        rw [hP, if_pos (by omega)]
      · unfold setChunk
        rw [if_neg (by omega)]
    · rw [if_neg h8]
      iapply Hk
      isplitl [Hx]; · iexact Hx
      isplitl [Hw]; · iexact Hw
      iexists f
      isplitr; · ipureintro; exact good_more P (by omega) hf
      iexact Ho

end Cert.KernelProof

end
-- ==== Proof.Send.lean ====
/-
# Starting a transfer

The rule for the start of ring `k`'s transfer of step `u`: the sender takes the landing place, which it has heard is free,
out of its invariant and gives the segment and the place up; the place, filled, is what the receiver's wait hands over.
-/
module

public import proofs.«01_k».proof.Proof.Ops

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

variable (P : Dev nD → Vec F S4096x2048 .f32) (κ : Dev nD × Kd → ℕ) (ιs : Key → ℕ)
variable (c : Dev nD) (k : Fin 4)

theorem oPt_sendM (u : ℕ) (hu : u < 30) (f : Vec F S4096x2048 .f32) :
    (oPt c {sg k c u} f : sProp 𝕄) = ((sendM k c u hu).view.loc (c : Thread nD τ) ↦[(sendM k c u hu).view.set]{fullShare} f) := by
  unfold oPt; rw [← sendM_set k c u hu]; rfl

theorem oPt_sendM_nxt (u : ℕ) (hu : u < 30) (f : Vec F S4096x2048 .f32) :
    (oPt (nxt k c) {sg k (nxt k c) (u + 1)} f : sProp 𝕄)
      = ((sendM k c u hu).view.loc (nxt k c : Thread nD τ) ↦[(sendM k c u hu).view.set]{fullShare} f) := by
  rw [sg_nxt k c u (by omega)]; unfold oPt; rw [← sendM_set k c u hu]; rfl

/-- A landed sum, as the receiver will read it. -/
theorem slot_pay (u : ℕ) (hu : u < 30) (h15 : u < 15) (fd : Buf (Elt F) ((slotM (rM k) (slotOf u)).view.loc (nxt k c : Thread nD τ))) :
    ((slotM (rM k) (slotOf u)).view.loc (nxt k c : Thread nD τ) ↦[(slotM (rM k) (slotOf u)).view.set]{fullShare}
        ((slotM (rM k) (slotOf u)).view.write (Elt F) fd ((sendM k c u hu).view.read (Elt F) (snt P k u c)) Finset.univ) : sProp 𝕄)
      ⊢ recvPay P (nxt k c) k u := by
  unfold recvPay; rw [if_pos h15]; unfold owns
  iintro H
  iexists _
  isplitr
  rotate_left
  · iexact H
  ipureintro
  rw [View.read_write_univ, sendM_read, sg_nxt k c u (by omega), prv_nxt]
  refine segv_congr fun i _ => ?_
  unfold snt; rw [if_pos h15]

/-- A landed finished segment. -/
theorem seg_pay (u : ℕ) (hu : u < 30) (h15 : ¬ u < 15) (fd : Vec F S4096x2048 .f32) :
    ((sendM k c u hu).view.loc (nxt k c : Thread nD τ) ↦[(sendM k c u hu).view.set]{fullShare}
        ((sendM k c u hu).view.write (Elt F) fd ((sendM k c u hu).view.read (Elt F) (snt P k u c)) Finset.univ) : sProp 𝕄)
      ⊢ recvPay P (nxt k c) k u := by
  unfold recvPay; rw [if_neg h15, oPt_sendM_nxt c k u hu]
  refine Entails.of_eq (pointsTo_congr fun i hi => ?_)
  have hi' : segOf i = sg k c u := by
    rw [sendM_set k c u hu] at hi; exact Finset.mem_singleton.1 (mem_hset.1 hi)
  rw [sendM_write k c u hu fd _ i hi']
  unfold snt; rw [if_neg h15]

/-- The library's rule for a transfer from `src` to `dst`, in round `r` of a send and a receive semaphore. -/
theorem wp_transfer (κ₁ κ₂ : ℕ) (c' : Dev nD) (src dst : Memref sig .tc .vmem S64x2048 .f32) (qs qr : DmaSem sig)
    {hsc : dst.view.ref.isScScratch = false} {hsrc : src.view.WordExact} {hdst : dst.view.WordExact}
    {hsem : DmaTarget.Typed .vmem (.dma qr) (.remote (Dev.tc c' : Thread nD τ) dst (.dma qs) hsc)}
    (fs : Buf (Elt F) (src.view.loc (c : Thread nD τ))) (fd : Buf (Elt F) (dst.view.loc (c' : Thread nD τ)))
    (r u : ℕ) (K : Cert.KernelProof.P F) (Q : PUnit → sProp 𝕄) (O : CellTallies nD τ sig ℕ) (W : Waits sig ℕ)
    (hN : dst.view.amount (.dma qr) = N)
    (hd₁ : (0 : ℕ) ∈ (ringRd P).duties ((c : Thread nD τ), .dma qs) r) (hd₂ : (0 : ℕ) ∈ (ringRd P).duties ((c' : Thread nD τ), .dma qr) r)
    (ha₁ : (ringRd P).amount ((c : Thread nD τ), .dma qs) r 0 = N) (ha₂ : (ringRd P).amount ((c' : Thread nD τ), .dma qr) r 0 = N)
    (hpay₁ : (src.view.loc (c : Thread nD τ) ↦[src.view.set]{fullShare} fs : sProp 𝕄) ⊢ (ringRd P).payload ((c : Thread nD τ), .dma qs) r 0)
    (hpay₂ : (dst.view.loc (c' : Thread nD τ) ↦[dst.view.set]{fullShare} (dst.view.write (Elt F) fd (src.view.read (Elt F) fs) Finset.univ) : sProp 𝕄)
      ⊢ (ringRd P).payload ((c' : Thread nD τ), .dma qr) r 0) :
    iprop(cellInv ER (ringRd P) κ₁ ((c : Thread nD τ), .dma qs) ∗ cellInv ER (ringRd P) κ₂ ((c' : Thread nD τ), .dma qr)
        ∗ (src.view.loc (c : Thread nD τ) ↦[src.view.set]{fullShare} fs) ∗ (dst.view.loc (c' : Thread nD τ) ↦[dst.view.set]{fullShare} fd)
        ∗ owes (c : Thread nD τ) (O + tallyAt ((c' : Thread nD τ), .dma qr) u N) W
        ∗ dutyTok ER ((c : Thread nD τ), .dma qs) r 0 ∗ reached ER ((c : Thread nD τ), .dma qs) r
        ∗ dutyTok ER ((c' : Thread nD τ), .dma qr) r 0 ∗ reached ER ((c' : Thread nD τ), .dma qr) r)
      ⊢ iprop(((cred (tallyAt ((c : Thread nD τ), .dma qs) 0 N) ∗ owes (c : Thread nD τ) O W) -∗ wpK c K Q)
        -∗ wpK c (.op (.enqueueDma src (.remote (Dev.tc c') dst (.dma qs) hsc) (.dma qr) hsrc hdst hsem) fun _ => K) Q) :=
  Rounds.wp_send_pointsTo 𝒱₀ ER (ringRd P) (c : Thread nD τ) none (κ₁ := κ₁) (κ₂ := κ₂) (k := fun _ => K) (Q := Q) (W := W) (defs := defs₀ (F := F)) (hsc := hsc) (hsrc := hsrc) (hdst := hdst) (hsem := hsem) hd₁ hd₂ u 0 N hN ha₁ ha₂ O rfl hpay₁ hpay₂

/-- The library's rule for a transfer, at ring `k`'s cells of step `u`, onto `dst`, whatever it is. -/
theorem wp_enq_raw (u : ℕ) (hu : u < 30) (K : Cert.KernelProof.P F) (Q : PUnit → sProp 𝕄) (O : CellTallies nD τ sig ℕ) (W : Waits sig ℕ)
    (dst : Memref sig .tc .vmem S64x2048 .f32) (hN : dst.view.amount (.dma (recvS k (slotOf u))) = N)
    {hsc : dst.view.ref.isScScratch = false} {hsrc : (sendM k c u hu).view.WordExact} {hdst : dst.view.WordExact}
    {hsem : DmaTarget.Typed .vmem (.dma (recvS k (slotOf u))) (.remote (Dev.tc (nxt k c) : Thread nD τ) dst (.dma (sendS k (slotOf u))) hsc)}
    (fd : Buf (Elt F) (dst.view.loc (nxt k c : Thread nD τ)))
    (hpay : (dst.view.loc (nxt k c : Thread nD τ) ↦[dst.view.set]{fullShare}
        (dst.view.write (Elt F) fd ((sendM k c u hu).view.read (Elt F) (snt P k u c)) Finset.univ) : sProp 𝕄) ⊢ recvPay P (nxt k c) k u) :
    iprop(cellInv ER (ringRd P) (κ (c, some (k, .inr (.inl (slotOf u))))) ((c : Thread nD τ), .dma (sendS k (slotOf u)))
        ∗ cellInv ER (ringRd P) (κ (nxt k c, some (k, .inl (slotOf u)))) ((nxt k c : Thread nD τ), .dma (recvS k (slotOf u)))
        ∗ ((sendM k c u hu).view.loc (c : Thread nD τ) ↦[(sendM k c u hu).view.set]{fullShare} snt P k u c)
        ∗ (dst.view.loc (nxt k c : Thread nD τ) ↦[dst.view.set]{fullShare} fd)
        ∗ owes (c : Thread nD τ) (O + tallyAt ((nxt k c : Thread nD τ), .dma (recvS k (slotOf u))) u N) W
        ∗ dutyTok ER ((c : Thread nD τ), .dma (sendS k (slotOf u))) (u / 2) 0 ∗ reached ER ((c : Thread nD τ), .dma (sendS k (slotOf u))) (u / 2)
        ∗ dutyTok ER ((nxt k c : Thread nD τ), .dma (recvS k (slotOf u))) (u / 2) 0
        ∗ reached ER ((nxt k c : Thread nD τ), .dma (recvS k (slotOf u))) (u / 2))
      ⊢ iprop(((cred (tallyAt ((c : Thread nD τ), .dma (sendS k (slotOf u))) 0 N) ∗ owes (c : Thread nD τ) O W) -∗ wpK c K Q)
        -∗ wpK c (.op (.enqueueDma (sendM k c u hu) (.remote (Dev.tc (nxt k c)) dst (.dma (sendS k (slotOf u))) hsc) (.dma (recvS k (slotOf u))) hsrc hdst hsem) fun _ => K) Q) := by
  have hd₁ : (0 : ℕ) ∈ (ringRd P).duties ((c : Thread nD τ), .dma (sendS k (slotOf u))) (u / 2) := by
    rw [show (ringRd P).duties ((c : Thread nD τ), .dma (sendS k (slotOf u))) (u / 2) = {0} from duties_send P c k u hu]; exact Finset.mem_singleton_self _
  have hd₂ : (0 : ℕ) ∈ (ringRd P).duties ((nxt k c : Thread nD τ), .dma (recvS k (slotOf u))) (u / 2) := by
    rw [show (ringRd P).duties ((nxt k c : Thread nD τ), .dma (recvS k (slotOf u))) (u / 2) = {0} from duties_recv P (nxt k c) k u hu]; exact Finset.mem_singleton_self _
  have hpay₁ : ((sendM k c u hu).view.loc (c : Thread nD τ) ↦[(sendM k c u hu).view.set]{fullShare} (snt P k u c) : sProp 𝕄)
      ⊢ (ringRd P).payload ((c : Thread nD τ), .dma (sendS k (slotOf u))) (u / 2) 0 :=
    Entails.of_eq ((oPt_sendM c k u hu _).symm.trans (payload_send P c k u 0).symm)
  have hpay₂ : (dst.view.loc (nxt k c : Thread nD τ) ↦[dst.view.set]{fullShare}
        (dst.view.write (Elt F) fd ((sendM k c u hu).view.read (Elt F) (snt P k u c)) Finset.univ) : sProp 𝕄)
      ⊢ (ringRd P).payload ((nxt k c : Thread nD τ), .dma (recvS k (slotOf u))) (u / 2) 0 :=
    hpay.trans (Entails.of_eq (payload_recv P (nxt k c) k u 0).symm)
  exact wp_transfer P c _ _ (nxt k c) (sendM k c u hu) dst (sendS k (slotOf u)) (recvS k (slotOf u)) (snt P k u c) fd (u / 2) u K Q O W hN hd₁ hd₂
    (amount_snd P c k (slotOf u) (u / 2) 0) (amount_recv P (nxt k c) k (slotOf u) (u / 2) 0) hpay₁ hpay₂

/-- The same for a device that owes what it owes. -/
theorem wp_enq_to (u : ℕ) (hu : u < 30) (K : Cert.KernelProof.P F) (Q : PUnit → sProp 𝕄) (O : CellTallies nD τ sig ℕ)
    (dst : Memref sig .tc .vmem S64x2048 .f32) (hN : dst.view.amount (.dma (recvS k (slotOf u))) = N)
    {hsc : dst.view.ref.isScScratch = false} {hsrc : (sendM k c u hu).view.WordExact} {hdst : dst.view.WordExact}
    {hsem : DmaTarget.Typed .vmem (.dma (recvS k (slotOf u))) (.remote (Dev.tc (nxt k c) : Thread nD τ) dst (.dma (sendS k (slotOf u))) hsc)}
    (fd : Buf (Elt F) (dst.view.loc (nxt k c : Thread nD τ)))
    (hpay : (dst.view.loc (nxt k c : Thread nD τ) ↦[dst.view.set]{fullShare}
        (dst.view.write (Elt F) fd ((sendM k c u hu).view.read (Elt F) (snt P k u c)) Finset.univ) : sProp 𝕄) ⊢ recvPay P (nxt k c) k u) :
    iprop(Pers P κ ιs ∗ oPt c {sg k c u} (snt P k u c) ∗ (dst.view.loc (nxt k c : Thread nD τ) ↦[dst.view.set]{fullShare} fd)
        ∗ dutyTok ER (sendC c k (slotOf u)) (u / 2) 0 ∗ reached ER (sendC c k (slotOf u)) (u / 2)
        ∗ dutyTok ER (recvC (nxt k c) k (slotOf u)) (u / 2) 0 ∗ reached ER (recvC (nxt k c) k (slotOf u)) (u / 2)
        ∗ ow c (O + tallyAt (recvC (nxt k c) k (slotOf u)) u N))
      ⊢ iprop(((cred (tallyAt (sendC c k (slotOf u)) 0 N) ∗ ow c O) -∗ wpK c K Q)
        -∗ wpK c (.op (.enqueueDma (sendM k c u hu) (.remote (Dev.tc (nxt k c)) dst (.dma (sendS k (slotOf u))) hsc) (.dma (recvS k (slotOf u))) hsrc hdst hsem) fun _ => K) Q) := by
  unfold ow
  iintro ⟨#HP, Hsrc, Hpl, Ht1, #Hr1, Ht2, #Hr2, ⟨%W, HO⟩⟩ Hk
  ihave Hsrc := (Entails.of_eq (oPt_sendM c k u hu _)) $$ Hsrc
  iapply (wp_enq_raw P κ c k u hu K Q O W dst hN fd hpay) $$ [Hsrc Hpl HO Ht1 Ht2]
  · isplitr; · iapply (pers_inv P κ ιs c (some (k, .inr (.inl (slotOf u))))); iexact HP
    isplitr; · iapply (pers_inv P κ ιs (nxt k c) (some (k, .inl (slotOf u)))); iexact HP
    isplitl [Hsrc]; · iexact Hsrc
    isplitl [Hpl]; · iexact Hpl
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The start of step `u`'s transfer. -/
theorem wp_enq (u : ℕ) (hu : u < 30) (K : Cert.KernelProof.P F) (Q : PUnit → sProp 𝕄) (O : CellTallies nD τ sig ℕ) :
    iprop(Pers P κ ιs ∗ oPt c {sg k c u} (snt P k u c) ∗ freed (nxt k c) k u ∗ writeTok ES (nxt k c, k, u) 1
        ∗ dutyTok ER (sendC c k (slotOf u)) (u / 2) 0 ∗ reached ER (sendC c k (slotOf u)) (u / 2)
        ∗ dutyTok ER (recvC (nxt k c) k (slotOf u)) (u / 2) 0 ∗ reached ER (recvC (nxt k c) k (slotOf u)) (u / 2)
        ∗ ow c (O + tallyAt (recvC (nxt k c) k (slotOf u)) u N))
      ⊢ iprop(((cred (tallyAt (sendC c k (slotOf u)) 0 N) ∗ ow c O) -∗ wpK c K Q)
        -∗ wpK c (enq k c u hu (slotOf u) K) Q) := by
  unfold freed
  iintro ⟨#HP, Hsrc, #Hf, Hw, Hrest⟩ Hk
  imod (slot_take ES (Set.mem_univ (ιs (nxt k c, k, u))) 1 (k := (nxt k c, k, u)) (S := place (nxt k c, k, u))) $$ [Hw] with Hpl
  · isplitr; · iapply (pers_slot P κ ιs (nxt k c) k u hu); iexact HP
    isplitr; · iexact Hf
    iexact Hw
  unfold enq place
  by_cases h15 : u < 15
  · simp only [if_pos h15]
    unfold slot
    icases Hpl with ⟨%fd, Hpl⟩
    iapply (wp_enq_to P κ ιs c k u hu K Q O (slotM (rM k) (slotOf u)) (amount_slot k (slotOf u) (recvS k (slotOf u))) fd
      (slot_pay P c k u hu h15 fd)) $$ [Hsrc Hpl Hrest]
    · isplitr; · iexact HP
      isplitl [Hsrc]; · iexact Hsrc
      isplitl [Hpl]; · iexact Hpl
      iexact Hrest
    iexact Hk
  · simp only [if_neg h15]
    unfold slot
    icases Hpl with ⟨%fd, Hpl⟩
    ihave Hpl := (show (oLoc (nxt k c) ↦[hset {sg k (nxt k c) (u + 1)}]{fullShare} fd : sProp 𝕄) ⊢ _ from Entails.of_eq (oPt_sendM_nxt c k u hu fd)) $$ Hpl
    iapply (wp_enq_to P κ ιs c k u hu K Q O (sendM k c u hu) (amount_send k c u hu (recvS k (slotOf u))) fd
      (seg_pay P c k u hu h15 fd)) $$ [Hsrc Hpl Hrest]
    · isplitr; · iexact HP
      isplitl [Hsrc]; · iexact Hsrc
      isplitl [Hpl]; · iexact Hpl
      iexact Hrest
    iexact Hk

end Cert.KernelProof

end
-- ==== Proof.Turn.lean ====
/-
# The parts of a ring's step

What a device holds of ring `k` between two operations, in five parts counted by the receives waited for, the credits given,
the credits taken, the sends waited for and the transfers started; and one rule for each operation of the step, over the
parts it changes.
-/
module

public import proofs.«01_k».proof.Proof.Buf
public import proofs.«01_k».proof.Proof.Send

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-! ## The five parts -/

/-- `r` receives waited for. -/
def RecvR (k : Fin 4) (c : Dev nD) (r : ℕ) : sProp 𝕄 :=
  iprop((bigSep (Finset.Ico r 30) fun u => cred (tallyAt (recvC c k (slotOf u)) u N))
    ∗ bigSep (Finset.univ : Finset (Fin 2)) fun b => atPos ER (recvC c k b) ((r + 1 - b.val) / 2) ∅ 0)

/-- `w` sends waited for of `e` started. -/
def SendR (k : Fin 4) (c : Dev nD) (w e : ℕ) : sProp 𝕄 :=
  iprop((bigSep (Finset.Ico w e) fun u => cred (tallyAt (sendC c k (slotOf u)) 0 N))
    ∗ bigSep (Finset.univ : Finset (Fin 2)) fun b => atPos ER (sendC c k b) ((w + 1 - b.val) / 2) ∅ 0)

/-- `e` transfers started: the tokens of the others. -/
def Toks (k : Fin 4) (c : Dev nD) (e : ℕ) : sProp 𝕄 :=
  bigSep (Finset.Ico e 30) fun u => iprop(dutyTok ER (recvC (nxt k c) k (slotOf u)) (u / 2) 0 ∗ dutyTok ER (sendC c k (slotOf u)) (u / 2) 0
    ∗ writeTok ES (nxt k c, k, u) 1)

/-- A slot of a receive buffer, with whatever contents. -/
def slotAny (k : Fin 4) (c : Dev nD) (u : ℕ) : sProp 𝕄 :=
  slot ((slotM (rM k) (slotOf u)).view.loc (c : Thread nD τ)) (slotM (rM k) (slotOf u)).view.set

/-- `n` credits given: the tokens of the others, the landing places not yet freed, what has been said of those freed, and
    the two slots kept at the end. -/
def CredR (k : Fin 4) (c : Dev nD) (n : ℕ) : sProp 𝕄 :=
  iprop((bigSep (Finset.Ico n 28) fun s => dutyTok ER (credC (prv k c) k) 0 s)
    ∗ (bigSep (Finset.Ico (n + 2) 30) fun u => readerAt ES (c, k, u) 0)
    ∗ (bigSep (Finset.range n) fun j => avail c k (j + 2))
    ∗ bigSep (Finset.Ico 13 (min n 15)) fun u => slotAny k c u)

/-- `m` credits taken. -/
def WaitC (k : Fin 4) (c : Dev nD) (m : ℕ) : sProp 𝕄 :=
  iprop(credAt c k m ∗ bigSep (Finset.Ico m 28) fun s => cred (tallyAt (credC c k) s 1))

/-! ## Bookkeeping -/

omit [FloatOps F] in
theorem pos_step (Φ : Fin 2 → ℕ → sProp 𝕄) (m : ℕ) :
    (bigSep Finset.univ fun b : Fin 2 => Φ b ((m + 1 - b.val) / 2))
      ⊢ iprop(Φ (slotOf m) (m / 2) ∗ (Φ (slotOf m) (m / 2 + 1) -∗ bigSep Finset.univ fun b : Fin 2 => Φ b ((m + 1 + 1 - b.val) / 2))) := by
  have h2 : ∀ Ψ : Fin 2 → sProp 𝕄, bigSep Finset.univ Ψ = iprop(Ψ 0 ∗ Ψ 1) := fun Ψ => by
    rw [bigSep_univ_eq_bigSepL [0, 1] (by decide) (by decide)]; rfl
  rw [h2, h2]
  rcases Nat.even_or_odd' m with ⟨q, rfl | rfl⟩
  · have e0 : slotOf (2 * q) = 0 := Fin.ext (by show 2 * q % 2 = 0; omega)
    rw [e0, show 2 * q / 2 = q from by omega, show (2 * q + 1 - (0 : Fin 2).val) / 2 = q from by show (2 * q + 1 - 0) / 2 = q; omega,
      show (2 * q + 1 + 1 - (0 : Fin 2).val) / 2 = q + 1 from by show (2 * q + 1 + 1 - 0) / 2 = q + 1; omega,
      show (2 * q + 1 - (1 : Fin 2).val) / 2 = q from by show (2 * q + 1 - 1) / 2 = q; omega,
      show (2 * q + 1 + 1 - (1 : Fin 2).val) / 2 = q from by show (2 * q + 1 + 1 - 1) / 2 = q; omega]
    iintro ⟨H0, H1⟩
    isplitl [H0]; · iexact H0
    iintro H0
    isplitl [H0]; · iexact H0
    iexact H1
  · have e0 : slotOf (2 * q + 1) = 1 := Fin.ext (by show (2 * q + 1) % 2 = 1; omega)
    rw [e0, show (2 * q + 1) / 2 = q from by omega, show (2 * q + 1 + 1 - (0 : Fin 2).val) / 2 = q + 1 from by show (2 * q + 1 + 1 - 0) / 2 = q + 1; omega,
      show (2 * q + 1 + 1 + 1 - (0 : Fin 2).val) / 2 = q + 1 from by show (2 * q + 1 + 1 + 1 - 0) / 2 = q + 1; omega,
      show (2 * q + 1 + 1 - (1 : Fin 2).val) / 2 = q from by show (2 * q + 1 + 1 - 1) / 2 = q; omega,
      show (2 * q + 1 + 1 + 1 - (1 : Fin 2).val) / 2 = q + 1 from by show (2 * q + 1 + 1 + 1 - 1) / 2 = q + 1; omega]
    iintro ⟨H0, H1⟩
    isplitl [H1]; · iexact H1
    iintro H1
    isplitl [H0]; · iexact H0
    iexact H1

theorem ico_first {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) from by ext i; simp only [Finset.mem_insert, Finset.mem_Ico]; omega,
    bigSep_insert (by simp)]; rfl

theorem ico_snoc {a b : ℕ} (h : a ≤ b) (Φ : ℕ → sProp 𝕄) : bigSep (Finset.Ico a (b + 1)) Φ = iprop(Φ b ∗ bigSep (Finset.Ico a b) Φ) := by
  rw [show Finset.Ico a (b + 1) = insert b (Finset.Ico a b) from by ext i; simp only [Finset.mem_insert, Finset.mem_Ico]; omega,
    bigSep_insert (by simp)]; rfl

theorem range_snoc (n : ℕ) (Φ : ℕ → sProp 𝕄) : bigSep (Finset.range (n + 1)) Φ = iprop(Φ n ∗ bigSep (Finset.range n) Φ) := by
  rw [Finset.range_add_one, bigSep_insert Finset.notMem_range_self]; rfl

variable (P : Dev nD → Vec F S4096x2048 .f32)
variable (κ : Dev nD × Kd → ℕ) (ιs : Key → ℕ)
variable (c : Dev nD) (k : Fin 4)

/-! ## The operations -/

/-- The wait for a receive. -/
theorem turn_recv (s : ℕ) (hs : s < 30) (K : Cert.KernelProof.P F) (Q : PUnit → sProp 𝕄) (O : CellTallies nD τ sig ℕ) (hO : Above O (2 * s + 2)) :
    iprop(Pers P κ ιs ∗ RecvR k c s ∗ ow c O)
      ⊢ iprop(((RecvR k c (s + 1) ∗ reached ER (recvC c k (slotOf s)) (s / 2 + 1) ∗ recvPay P c k s ∗ ow c O) -∗ wpK c K Q)
        -∗ wpK c (waitRecv k c s hs (slotOf s) K) Q) := by
  unfold RecvR
  rw [ico_first hs]
  iintro ⟨#HP, ⟨⟨Hc, Hcs⟩, Hat⟩, HO⟩ Hk
  ihave Hat := (pos_step (fun b r => atPos ER (recvC c k b) r ∅ 0) s) $$ Hat
  icases Hat with ⟨Hat, Hback⟩
  iapply (wp_recvWait P κ ιs c k s hs K Q O hO) $$ [Hc Hat HO]
  · isplitr; · iexact HP
    isplitl [Hc]; · iexact Hc
    isplitl [Hat]; · iexact Hat
    iexact HO
  iintro ⟨Hat, Hr, Hp, HO⟩
  iapply Hk
  isplitl [Hcs Hat Hback]
  · isplitl [Hcs]; · iexact Hcs
    iapply Hback; iexact Hat
  isplitl [Hr]; · iexact Hr
  isplitl [Hp]; · iexact Hp
  iexact HO

/-- The wait for a send. -/
theorem turn_sent (u e : ℕ) (hu : u < 30) (he : u < e) (K : Cert.KernelProof.P F) (Q : PUnit → sProp 𝕄) (O : CellTallies nD τ sig ℕ) (hO : Above O 0) :
    iprop(Pers P κ ιs ∗ SendR k c u e ∗ ow c O)
      ⊢ iprop(((SendR k c (u + 1) e ∗ reached ER (sendC c k (slotOf u)) (u / 2 + 1) ∗ oPt c {sg k c u} (snt P k u c) ∗ ow c O) -∗ wpK c K Q)
        -∗ wpK c (waitSend k c u hu (slotOf u) K) Q) := by
  unfold SendR
  rw [ico_first he]
  iintro ⟨#HP, ⟨⟨Hc, Hcs⟩, Hat⟩, HO⟩ Hk
  ihave Hat := (pos_step (fun b r => atPos ER (sendC c k b) r ∅ 0) u) $$ Hat
  icases Hat with ⟨Hat, Hback⟩
  iapply (wp_sendWait P κ ιs c k u hu K Q O hO) $$ [Hc Hat HO]
  · isplitr; · iexact HP
    isplitl [Hc]; · iexact Hc
    isplitl [Hat]; · iexact Hat
    iexact HO
  unfold sendPay
  iintro ⟨Hat, Hr, Hp, HO⟩
  iapply Hk
  isplitl [Hcs Hat Hback]
  · isplitl [Hcs]; · iexact Hcs
    iapply Hback; iexact Hat
  isplitl [Hr]; · iexact Hr
  isplitl [Hp]; · iexact Hp
  iexact HO

/-- The start of a transfer. -/
theorem turn_enq (u w : ℕ) (hu : u < 30) (hw : w ≤ u) (K : Cert.KernelProof.P F) (Q : PUnit → sProp 𝕄) (O : CellTallies nD τ sig ℕ) (n : ℕ) :
    iprop(Pers P κ ιs ∗ SendR k c w u ∗ Toks k c u ∗ oPt c {sg k c u} (snt P k u c)
        ∗ avail (nxt k c) k u ∗ reached ER (sendC c k (slotOf u)) (u / 2) ∗ ow c (O + debt k c u n))
      ⊢ iprop(((SendR k c w (u + 1) ∗ Toks k c (u + 1) ∗ ow c (O + debt k c (u + 1) n)) -∗ wpK c K Q)
        -∗ wpK c (enq k c u hu (slotOf u) K) Q) := by
  unfold SendR Toks avail
  rw [ico_first hu, ico_snoc hw, debt_send k c u n hu, ← add_assoc]
  iintro ⟨#HP, ⟨Hcs, Hat⟩, ⟨⟨Hd1, Hd2, Hw⟩, Htoks⟩, Ho, ⟨#Hf, #Hr1⟩, #Hr2, HO⟩ Hk
  iapply (wp_enq P κ ιs c k u hu K Q (O + debt k c (u + 1) n)) $$ [Ho Hd1 Hd2 Hw HO]
  · isplitr; · iexact HP
    isplitl [Ho]; · iexact Ho
    isplitr; · iexact Hf
    isplitl [Hw]; · iexact Hw
    isplitl [Hd2]; · iexact Hd2
    isplitr; · iexact Hr2
    isplitl [Hd1]; · iexact Hd1
    isplitr; · iexact Hr1
    iexact HO
  iintro ⟨Hc, HO⟩
  iapply Hk
  isplitl [Hcs Hat Hc]
  · isplitl [Hcs Hc]
    · isplitl [Hc]; · iexact Hc
      iexact Hcs
    iexact Hat
  isplitl [Htoks]; · iexact Htoks
  iexact HO

/-- The wait for a credit. -/
theorem turn_take (m : ℕ) (hm : m < 28) (K : Cert.KernelProof.P F) (Q : PUnit → sProp 𝕄) (O : CellTallies nD τ sig ℕ) (hO : Above O (2 * m + 3)) :
    iprop(Pers P κ ιs ∗ WaitC k c m ∗ ow c O)
      ⊢ iprop(((WaitC k c (m + 1) ∗ avail (nxt k c) k (m + 2) ∗ ow c O) -∗ wpK c K Q)
        -∗ wpK c (.op (.semWait (csem k) (1#32 : BitVec 32).toInt) fun _ => K) Q) := by
  unfold WaitC
  rw [ico_first hm]
  iintro ⟨#HP, ⟨Hat, ⟨Hc, Hcs⟩⟩, HO⟩ Hk
  iapply (wp_creditWait P κ ιs c k m hm K Q O hO) $$ [Hc Hat HO]
  · isplitr; · iexact HP
    isplitl [Hc]; · iexact Hc
    isplitl [Hat]; · iexact Hat
    iexact HO
  iintro ⟨Hat, Ha, HO⟩
  iapply Hk
  isplitl [Hat Hcs]
  · isplitl [Hat]; · iexact Hat
    iexact Hcs
  isplitl [Ha]; · iexact Ha
  iexact HO

/-- What a credit of step `s` frees: the slot just read, or a segment of the result (the slot is then kept). -/
def given (k : Fin 4) (c : Dev nD) (s : ℕ) : sProp 𝕄 :=
  iprop((if s < 15 then slotAny k c s else iprop(emp)) ∗ (if 13 ≤ s then slot (oLoc c) (hset {sg k c (s + 3)}) else iprop(emp)))

/-- It is the next landing place, but for the kept slot. -/
theorem given_place (s : ℕ) :
    (given k c s : sProp 𝕄) ⊢ iprop(place (c, k, s + 2) ∗ ((bigSep (Finset.Ico 13 (min s 15)) fun u => slotAny k c u)
      -∗ bigSep (Finset.Ico 13 (min (s + 1) 15)) fun u => slotAny k c u)) := by
  unfold given place
  have e : slotOf (s + 2) = slotOf s := Fin.ext (by show (s + 2) % 2 = s % 2; omega)
  by_cases h15 : s < 15
  · by_cases h13 : 13 ≤ s
    · rw [if_pos h15, if_pos h13]
      simp only [if_neg (show ¬ s + 2 < 15 from by omega)]
      rw [show min (s + 1) 15 = s + 1 from by omega, show min s 15 = s from by omega, ico_snoc h13]
      iintro ⟨H1, H2⟩
      isplitl [H2]; · iexact H2
      iintro H3
      isplitl [H1]; · iexact H1
      iexact H3
    · rw [if_pos h15, if_neg h13]
      simp only [if_pos (show s + 2 < 15 from by omega)]
      rw [show min (s + 1) 15 = s + 1 from by omega, show min s 15 = s from by omega, Finset.Ico_eq_empty (by omega), Finset.Ico_eq_empty (by omega), e]
      unfold slotAny
      iintro ⟨H1, H2⟩
      isplitl [H1]; · iexact H1
      iintro H3
      iexact H3
  · rw [if_neg h15, if_pos (show 13 ≤ s from by omega)]
    simp only [if_neg (show ¬ s + 2 < 15 from by omega)]
    rw [show min (s + 1) 15 = 15 from by omega, show min s 15 = 15 from by omega]
    iintro ⟨H1, H2⟩
    isplitl [H2]; · iexact H2
    iintro H3
    iexact H3

/-- A credit. -/
theorem turn_give (s : ℕ) (hs : s < 28) (K : Cert.KernelProof.P F) (Q : PUnit → sProp 𝕄) (O : CellTallies nD τ sig ℕ) (t : ℕ) :
    iprop(Pers P κ ιs ∗ CredR k c s ∗ given k c s ∗ reached ER (recvC c k (slotOf s)) (s / 2 + 1) ∗ ow c (O + debt k c t s))
      ⊢ iprop(((CredR k c (s + 1) ∗ ow c (O + debt k c t (s + 1))) -∗ wpK c K Q) -∗ wpK c (signal (prv k c) (csem k) K) Q) := by
  have e : slotOf (s + 2) = slotOf s := Fin.ext (by show (s + 2) % 2 = s % 2; omega)
  have e2 : (s + 2) / 2 = s / 2 + 1 := by omega
  unfold CredR
  rw [ico_first hs, ico_first (show s + 2 < 30 from by omega), show s + 2 + 1 = s + 1 + 2 from by omega, range_snoc,
    debt_cred k c t s hs, ← add_assoc]
  iintro ⟨#HP, ⟨⟨Ht, Hts⟩, ⟨Hrd, Hrds⟩, #Hav, Hkept⟩, Hg, #Hr, HO⟩ Hk
  ihave Hg := (given_place c k s) $$ Hg
  icases Hg with ⟨Hpl, Hkb⟩
  iapply fupd_wp
  imod (slot_release ES (Set.mem_univ (ιs (c, k, s + 2))) (place_excl (c, k, s + 2)) 0) $$ [Hrd Hpl] with ⟨Hrd, #Hrel⟩
  · isplitr; · iapply (pers_slot P κ ιs c k (s + 2) (by omega)); iexact HP
    isplitl [Hrd]; · iexact Hrd
    iexact Hpl
  imodintro
  iapply (wp_credit P κ ιs c k s hs K Q (O + debt k c t (s + 1))) $$ [Ht HO]
  · isplitr; · iexact HP
    isplitl [Ht]; · iexact Ht
    isplitr
    · unfold heard avail freed
      rw [range_snoc, e, e2]
      isplitr
      · isplitr; · iexact Hrel
        iexact Hr
      iexact Hav
    iexact HO
  iintro HO
  iapply Hk
  isplitr [HO]
  · isplitl [Hts]; · iexact Hts
    isplitl [Hrds]; · iexact Hrds
    isplitr
    · unfold avail freed
      rw [e, e2]
      isplitr
      · isplitr; · iexact Hrel
        iexact Hr
      iexact Hav
    iapply Hkb; iexact Hkept
  iexact HO

end Cert.KernelProof

end
-- ==== Proof.RingStep.lean ====
/-
# One ring's part of a step

The rule of `ringStep`: from a ring's state before its step `s`, and the device's part of the result buffer, to those after
it.
-/
module

public import proofs.«01_k».proof.Proof.Turn

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-- A ring's state before its step `s`. -/
def RS (k : Fin 4) (c : Dev nD) (s : ℕ) : sProp 𝕄 :=
  iprop(freed (nxt k c) k 1 ∗ RecvR k c s ∗ CredR k c (min s 28) ∗ WaitC k c (min (s - 1) 28)
    ∗ SendR k c (min (s - 1) 28) (min (s + 1) 30) ∗ Toks k c (min (s + 1) 30))

/-- What a device owes for a ring before its step `s`. -/
def rdebt (k : Fin 4) (c : Dev nD) (s : ℕ) : CellTallies nD τ sig ℕ := debt k c (min (s + 1) 30) (min s 28)

variable (P : Dev nD → Vec F S4096x2048 .f32)
variable (κ : Dev nD × Kd → ℕ) (ιs : Key → ℕ)
variable (c : Dev nD) (k : Fin 4)

omit [FloatOps F] in
theorem oPt_congr (n : Fin 64) (f g : Vec F S4096x2048 .f32) (h : ∀ i, segOf i = n → f i = g i) : (oPt c {n} f : sProp 𝕄) = oPt c {n} g :=
  pointsTo_congr fun i hi => h i (Finset.mem_singleton.1 (mem_hset.1 hi))

theorem sg_ne_two (s : ℕ) (hs : 1 ≤ s) (hs' : s < 30) : sg k c (s + 1) ≠ sg k c (s - 1) := fun h => by
  have := ui_sg k c (s + 1) (by omega)
  rw [h, ui_sg k c (s - 1) (by omega)] at this
  omega

/-- `f` is `f0` with segment `s + 1` made ready to be sent. -/
def Landed (s : ℕ) (f0 f : Vec F S4096x2048 .f32) : Prop :=
  (∀ i, segOf i = sg k c (s + 1) → f i = snt P k (s + 1) c i) ∧ ∀ i, segOf i ≠ sg k c (s + 1) → f i = f0 i

/-- The buffer after a receive. -/
def OutL (s : ℕ) (σ : Fin 4 → ℕ) : sProp 𝕄 :=
  iprop(∃ f0 f, ⌜Good P c (s + 1) σ f0 ∧ Landed P c k s f0 f⌝ ∗ oPt c (hRecv k c s (held c σ)) f)

/-- The landed segment is added, or is in its place already. -/
theorem turn_land (s : ℕ) (hs : s < 30) (σ : Fin 4 → ℕ) (hσ : σ k = s) (K : Cert.KernelProof.P F) (Q : PUnit → sProp 𝕄) :
    iprop(recvPay P c k s ∗ Out P c (s + 1) σ)
      ⊢ iprop(((OutL P c k s σ ∗ (if s < 15 then slotAny k c s else iprop(emp))) -∗ wpK c K Q) -∗ wpK c (accum k c s (slotOf s) K) Q) := by
  unfold recvPay Out OutL
  by_cases h15 : s < 15
  · simp only [if_pos h15, hRecv, if_neg (show ¬ 15 ≤ s from by omega)]
    iintro ⟨Hp, ⟨%f, %hf, Ho⟩⟩ Hk
    iapply (wp_accum c k s h15 (held c σ) (acc_mem k c σ s h15 hσ) f (segv (acc P k s (prv k c)) (sg k c (s + 1))) K Q) $$ [Hp Ho]
    · isplitl [Hp]; · iexact Hp
      iexact Ho
    iintro ⟨Hp, Ho⟩
    iapply Hk
    isplitl [Ho]
    · iexists f; iexists _
      isplitr
      rotate_left
      · iexact Ho
      ipureintro
      refine ⟨hf, fun i hi => ?_, fun i hi => if_neg hi⟩
      have hv : updSeg f (sg k c (s + 1)) (addf (segv f (sg k c (s + 1))) (segv (acc P k s (prv k c)) (sg k c (s + 1)))) i = acc P k (s + 1) c i := by
        unfold updSeg
        rw [if_pos hi]
        show FloatOps.addf (segv f (sg k c (s + 1)) _) (segv (acc P k s (prv k c)) (sg k c (s + 1)) _) = _
        rw [segv_at f _ i hi, segv_at _ _ i hi, good_own P k s h15 hσ hf i hi]; rfl
      rw [hv]
      unfold snt
      by_cases h14 : s + 1 < 15
      · rw [if_pos h14]
      · have e : s + 1 = 15 := by omega
        rw [if_neg h14, e]; rw [e] at hi
        exact acc_last P k c i hi
    unfold owns slotAny slot
    icases Hp with ⟨%g, %hg, Hp⟩
    iexists g; iexact Hp
  · simp only [if_neg h15, hRecv, if_pos (show 15 ≤ s from by omega)]
    unfold accum
    rw [dif_neg h15]
    iintro ⟨Hp, ⟨%f, %hf, Ho⟩⟩ Hk
    iapply Hk
    isplitl [Hp Ho]
    · ihave Ho := (oPt_put c (recv_notMem k c σ s hs (by omega) hσ) f (fin P)) $$ [Hp Ho]
      · isplitl [Hp]; · iexact Hp
        iexact Ho
      iexists f; iexists _
      isplitr
      rotate_left
      · iexact Ho
      ipureintro
      refine ⟨hf, fun i hi => ?_, fun i hi => if_neg hi⟩
      show (if segOf i = sg k c (s + 1) then fin P i else f i) = _
      rw [if_pos hi]; unfold snt; rw [if_neg (by omega)]
    iempintro

/-- The buffer after a credit. -/
def OutC (s : ℕ) (σ : Fin 4 → ℕ) : sProp 𝕄 :=
  iprop(∃ f0 f, ⌜Good P c (s + 1) σ f0 ∧ Landed P c k s f0 f⌝ ∗ oPt c (hCred k c s (hRecv k c s (held c σ))) f)

/-- What a credit hands over is taken out. -/
theorem out_given (s : ℕ) (hs : s < 28) (σ : Fin 4 → ℕ) (hσ : σ k = s) :
    iprop(OutL P c k s σ ∗ (if s < 15 then slotAny k c s else iprop(emp))) ⊢ iprop(OutC P c k s σ ∗ given k c s) := by
  unfold OutL OutC given hCred
  by_cases h13 : 13 ≤ s
  · simp only [if_pos (show 13 ≤ s ∧ s < 28 from ⟨h13, hs⟩), if_pos h13]
    iintro ⟨⟨%f0, %f, %hf, Ho⟩, Hs⟩
    ihave Ho := (oPt_take c (cred_mem k c σ s ⟨h13, hs⟩ hσ) f) $$ Ho
    icases Ho with ⟨Hn, Ho⟩
    isplitl [Ho]
    · iexists f0; iexists f
      isplitr; · ipureintro; exact hf
      iexact Ho
    isplitl [Hs]; · iexact Hs
    unfold slot oPt
    iexists f; iexact Hn
  · simp only [if_neg (show ¬ (13 ≤ s ∧ s < 28) from fun h => h13 h.1), if_neg h13]
    iintro ⟨Ho, Hs⟩
    isplitl [Ho]; · iexact Ho
    isplitl [Hs]; · iexact Hs
    iempintro

/-- The buffer after the step's end. -/
theorem out_end (s : ℕ) (hs : s < 30) (σ : Fin 4 → ℕ) (hσ : σ k = s) (f0 f : Vec F S4096x2048 .f32) (hg : Good P c (s + 1) σ f0)
    (hl : Landed P c k s f0 f) :
    (oPt c (hSend k c s (hBack k c s (hCred k c s (hRecv k c s (held c σ)))))
        (fun i => if (1 ≤ s ∧ s < 29) ∧ segOf i = sg k c (s - 1) then snt P k (s - 1) c i else f i) : sProp 𝕄)
      ⊢ Out P c (s + 1) (Function.update σ k (s + 1)) := by
  unfold Out
  rw [held_step k c σ s hs hσ]
  iintro Ho
  iexists _
  isplitr
  rotate_left
  · iexact Ho
  ipureintro
  refine good_step P k s hs hσ hg (fun i hi => ?_) (fun h i hi => ?_) (fun i h1 h2 => ?_)
  · rw [if_neg fun h => sg_ne_two c k s h.1.1 hs (hi.symm.trans h.2)]; exact hl.1 i hi
  · exact if_pos ⟨h, hi⟩
  · rw [if_neg h2]; exact hl.2 i h1

/-- The next transfer's start, the segment sent two steps before back. -/
theorem turn_next (s : ℕ) (hs : s < 29) (σ : Fin 4 → ℕ) (hσ : σ k = s) (K : Cert.KernelProof.P F) (Q : PUnit → sProp 𝕄)
    (O : CellTallies nD τ sig ℕ) (n : ℕ) (hO : Above (O + debt k c (s + 1) n) (2 * s + 1)) :
    iprop(Pers P κ ιs ∗ freed (nxt k c) k 1 ∗ WaitC k c (s - 1) ∗ SendR k c (s - 1) (s + 1) ∗ Toks k c (s + 1) ∗ OutC P c k s σ
        ∗ ow c (O + debt k c (s + 1) n))
      ⊢ iprop(((WaitC k c s ∗ SendR k c s (s + 2) ∗ Toks k c (s + 2) ∗ Out P c (s + 1) (Function.update σ k (s + 1))
          ∗ ow c (O + debt k c (s + 2) n)) -∗ wpK c K Q)
        -∗ wpK c (next k c (s + 1) K) Q) := by
  have hs2 : s + 1 < 30 := by omega
  unfold next OutC
  rw [dif_pos hs2]
  unfold ready
  by_cases h1 : 1 ≤ s
  · rw [dif_pos (show 2 ≤ s + 1 from by omega)]
    obtain ⟨m, rfl⟩ : ∃ m, s = m + 1 := ⟨s - 1, by omega⟩
    have eb : slotOf (m + 1 + 1) = slotOf m := Fin.ext (by show (m + 1 + 1) % 2 = m % 2; omega)
    have hm30 : m < 30 := by omega
    have e2 : m / 2 + 1 = (m + 1 + 1) / 2 := by omega
    rw [show waitSend k c (m + 1 + 1 - 2) (by omega) (slotOf (m + 1 + 1)) (enq k c (m + 1 + 1) hs2 (slotOf (m + 1 + 1)) K)
      = waitSend k c m (by omega) (slotOf m) (enq k c (m + 1 + 1) hs2 (slotOf (m + 1 + 1)) K) from by rw [eb]; rfl]
    simp only [Nat.add_sub_cancel]
    iintro ⟨#HP, #Hf, Hw, Hsr, Ht, ⟨%f0, %f, %hf, Ho⟩, HO⟩ Hk
    iapply (turn_take P κ ιs c k m (by omega) _ Q _ (hO.mono (by omega))) $$ [Hw HO]
    · isplitr; · iexact HP
      isplitl [Hw]; · iexact Hw
      iexact HO
    iintro ⟨Hw, #Ha, HO⟩
    iapply (turn_sent P κ ιs c k m (m + 1 + 1) hm30 (by omega) _ Q _ (hO.mono (by omega))) $$ [Hsr HO]
    · isplitr; · iexact HP
      isplitl [Hsr]; · iexact Hsr
      iexact HO
    rw [e2, ← eb]
    iintro ⟨Hsr, #Hr, Hback, HO⟩
    have hbn := back_notMem k c σ (m + 1) ⟨by omega, by omega⟩ hσ
    rw [Nat.add_sub_cancel] at hbn
    ihave Ho := (oPt_put c hbn f (snt P k m c)) $$ [Hback Ho]
    · isplitl [Hback]; · iexact Hback
      iexact Ho
    have hsm := send_mem k c σ (m + 1) (by omega) hσ
    have hB : hBack k c (m + 1) (hCred k c (m + 1) (hRecv k c (m + 1) (held c σ))) = insert (sg k c m) (hCred k c (m + 1) (hRecv k c (m + 1) (held c σ))) :=
      if_pos ⟨by omega, by omega⟩
    rw [hB] at hsm
    ihave Ho := (oPt_take c hsm _) $$ Ho
    icases Ho with ⟨Hn, Ho⟩
    ihave Hn := (Entails.of_eq (oPt_congr (F := F) c (sg k c (m + 1 + 1)) _ (snt P k (m + 1 + 1) c) fun i hi => by
      have hne : segOf i ≠ sg k c m := fun h => sg_ne_two c k (m + 1) (by omega) (by omega) (hi.symm.trans h)
      rw [if_neg hne]; exact hf.2.1 i hi)) $$ Hn
    iapply (turn_enq P κ ιs c k (m + 1 + 1) (m + 1) hs2 (by omega) K Q O n) $$ [Hsr Ht Hn HO]
    · isplitr; · iexact HP
      isplitl [Hsr]; · iexact Hsr
      isplitl [Ht]; · iexact Ht
      isplitl [Hn]; · iexact Hn
      isplitr; · iexact Ha
      isplitr; · iexact Hr
      iexact HO
    iintro ⟨Hsr, Ht, HO⟩
    iapply Hk
    isplitl [Hw]; · iexact Hw
    isplitl [Hsr]; · iexact Hsr
    isplitl [Ht]; · iexact Ht
    isplitl [Ho]
    · iapply (out_end P c k (m + 1) (by omega) σ hσ f0 f hf.1 hf.2)
      rw [hB]
      simp only [hSend, if_pos hs, Nat.add_sub_cancel, show (1 ≤ m + 1 ∧ m + 1 < 29) = True from eq_true ⟨by omega, by omega⟩, _root_.true_and]
      iexact Ho
    iexact HO
  · obtain rfl : s = 0 := by omega
    rw [dif_neg (show ¬ 2 ≤ 0 + 1 from by omega)]
    iintro ⟨#HP, #Hf, Hw, Hsr, Ht, ⟨%f0, %f, %hf, Ho⟩, HO⟩ Hk
    have hsm := send_mem k c σ 0 (by omega) hσ
    have hB : hBack k c 0 (hCred k c 0 (hRecv k c 0 (held c σ))) = hCred k c 0 (hRecv k c 0 (held c σ)) := if_neg (by omega)
    rw [hB] at hsm
    ihave Ho := (oPt_take c hsm _) $$ Ho
    icases Ho with ⟨Hn, Ho⟩
    ihave Hn := (Entails.of_eq (oPt_congr (F := F) c (sg k c (0 + 1)) _ (snt P k (0 + 1) c) fun i hi => hf.2.1 i hi)) $$ Hn
    iapply (turn_enq P κ ιs c k (0 + 1) 0 hs2 (by omega) K Q O n) $$ [Hsr Ht Hn HO]
    · isplitr; · iexact HP
      isplitl [Hsr]; · iexact Hsr
      isplitl [Ht]; · iexact Ht
      isplitl [Hn]; · iexact Hn
      isplitr
      · unfold avail
        isplitr; · iexact Hf
        iapply (pers_reached P κ ιs (nxt k c) (some (k, .inl (slotOf (0 + 1))))); iexact HP
      isplitr
      · iapply (pers_reached P κ ιs c (some (k, .inr (.inl (slotOf (0 + 1)))))); iexact HP
      iexact HO
    iintro ⟨Hsr, Ht, HO⟩
    iapply Hk
    isplitl [Hw]; · iexact Hw
    isplitl [Hsr]; · iexact Hsr
    isplitl [Ht]; · iexact Ht
    isplitl [Ho]
    · iapply (out_end P c k 0 (by omega) σ hσ f0 f hf.1 hf.2)
      rw [hB]
      simp only [hSend, if_pos hs, show (1 ≤ 0 ∧ 0 < 29) = False from eq_false (by omega), _root_.false_and, if_false]
      iexact Ho
    iexact HO

/-- What is owed for ring `k` before its step `s` is above its receive wait. -/
theorem rdebt_above (s b : ℕ) (h : b ≤ 2 * s + 2) (hs : s ≤ 30) : Above (rdebt k c s) b := by
  unfold rdebt
  by_cases h28 : s < 28
  · exact debt_above k c _ _ b (by omega) (by omega)
  · by_cases h29 : s < 29
    · rw [show min s 28 = 28 from by omega]
      unfold debt
      rw [Finset.Ico_self, Finset.sum_empty, add_zero]
      have := debt_above k c (min (s + 1) 30) 30 b (by omega) (by omega)
      unfold debt at this
      rwa [Finset.Ico_eq_empty (show ¬ 30 < 28 by decide), Finset.sum_empty, add_zero] at this
    · rw [debt_done k c _ _ (by omega) (by omega)]; exact above_zero b

/-- Ring `k`'s part of step `s`. -/
theorem wp_ringStep (s : ℕ) (hs : s < 30) (σ : Fin 4 → ℕ) (hσ : σ k = s) (K : Cert.KernelProof.P F) (Q : PUnit → sProp 𝕄)
    (O : CellTallies nD τ sig ℕ) (hO : Above O (2 * s + 2)) :
    iprop(Pers P κ ιs ∗ RS k c s ∗ Out P c (s + 1) σ ∗ ow c (O + rdebt k c s))
      ⊢ iprop(((RS k c (s + 1) ∗ Out P c (s + 1) (Function.update σ k (s + 1)) ∗ ow c (O + rdebt k c (s + 1))) -∗ wpK c K Q)
        -∗ wpK c (ringStep k c s hs K) Q) := by
  have hA : Above (O + rdebt k c s) (2 * s + 2) := above_add hO (rdebt_above c k s _ le_rfl (by omega))
  unfold ringStep RS
  iintro ⟨#HP, ⟨#Hf, Hr, Hcr, Hw, Hsr, Ht⟩, Ho, HO⟩ Hk
  iapply (turn_recv P κ ιs c k s hs _ Q _ hA) $$ [Hr HO]
  · isplitr; · iexact HP
    isplitl [Hr]; · iexact Hr
    iexact HO
  iintro ⟨Hr, #Hreach, Hp, HO⟩
  iapply (turn_land P c k s hs σ hσ _ Q) $$ [Hp Ho]
  · isplitl [Hp]; · iexact Hp
    iexact Ho
  iintro Ho
  unfold rdebt
  by_cases h28 : s < 28
  · unfold credit
    rw [if_pos h28, show min s 28 = s from by omega, show min (s - 1) 28 = s - 1 from by omega, show min (s + 1) 30 = s + 1 from by omega,
      show min (s + 1) 28 = s + 1 from by omega, show min (s + 1 - 1) 28 = s from by omega, show min (s + 1 + 1) 30 = s + 2 from by omega]
    ihave Ho := (out_given P c k s h28 σ hσ) $$ Ho
    icases Ho with ⟨Ho, Hg⟩
    iapply (turn_give P κ ιs c k s h28 _ Q O (s + 1)) $$ [Hcr Hg HO]
    · isplitr; · iexact HP
      isplitl [Hcr]; · iexact Hcr
      isplitl [Hg]; · iexact Hg
      isplitr; · iexact Hreach
      iexact HO
    iintro ⟨Hcr, HO⟩
    iapply (turn_next P κ ιs c k s (by omega) σ hσ K Q O (s + 1)
      (above_add (hO.mono (by omega)) (debt_above k c _ _ _ (by omega) (by omega)))) $$ [Hw Hsr Ht Ho HO]
    · isplitr; · iexact HP
      isplitr; · iexact Hf
      isplitl [Hw]; · iexact Hw
      isplitl [Hsr]; · iexact Hsr
      isplitl [Ht]; · iexact Ht
      isplitl [Ho]; · iexact Ho
      iexact HO
    iintro ⟨Hw, Hsr, Ht, Ho, HO⟩
    iapply Hk
    isplitr [Ho HO]
    · isplitr; · iexact Hf
      isplitl [Hr]; · iexact Hr
      isplitl [Hcr]; · iexact Hcr
      isplitl [Hw]; · iexact Hw
      isplitl [Hsr]; · iexact Hsr
      iexact Ht
    isplitl [Ho]; · iexact Ho
    iexact HO
  · unfold credit
    rw [if_neg h28]
    ihave Ho := (show iprop(OutL P c k s σ ∗ (if s < 15 then slotAny k c s else iprop(emp))) ⊢ (OutC P c k s σ : sProp 𝕄) from by
      unfold OutL OutC hCred
      simp only [if_neg (show ¬ (13 ≤ s ∧ s < 28) from fun h => h28 h.2), if_neg (show ¬ s < 15 from by omega)]
      iintro ⟨Ho, _⟩
      iexact Ho) $$ Ho
    by_cases h29 : s < 29
    · obtain rfl : s = 28 := by omega
      iapply (turn_next P κ ιs c k 28 (by omega) σ hσ K Q O 28 (hA.mono (by omega))) $$ [Hw Hsr Ht Ho HO]
      · isplitr; · iexact HP
        isplitr; · iexact Hf
        isplitl [Hw]; · iexact Hw
        isplitl [Hsr]; · iexact Hsr
        isplitl [Ht]; · iexact Ht
        isplitl [Ho]; · iexact Ho
        iexact HO
      iintro ⟨Hw, Hsr, Ht, Ho, HO⟩
      iapply Hk
      isplitr [Ho HO]
      · isplitr; · iexact Hf
        isplitl [Hr]; · iexact Hr
        isplitl [Hcr]; · iexact Hcr
        isplitl [Hw]; · iexact Hw
        isplitl [Hsr]; · iexact Hsr
        iexact Ht
      isplitl [Ho]; · iexact Ho
      iexact HO
    · obtain rfl : s = 29 := by omega
      unfold next OutC
      rw [dif_neg (by decide)]
      icases Ho with ⟨%f0, %f, %hf, Ho⟩
      iapply Hk
      isplitr [Ho HO]
      · isplitr; · iexact Hf
        isplitl [Hr]; · iexact Hr
        isplitl [Hcr]; · iexact Hcr
        isplitl [Hw]; · iexact Hw
        isplitl [Hsr]; · iexact Hsr
        iexact Ht
      isplitl [Ho]
      · iapply (out_end P c k 29 hs σ hσ f0 f hf.1 hf.2)
        have hB : hSend k c 29 (hBack k c 29 (hCred k c 29 (hRecv k c 29 (held c σ)))) = hCred k c 29 (hRecv k c 29 (held c σ)) := by
          unfold hSend hBack; rw [if_neg (by decide), if_neg (by decide)]
        rw [hB]
        simp only [show (1 ≤ 29 ∧ 29 < 29) = False from eq_false (by omega), _root_.false_and, if_false]
        iexact Ho
      iexact HO

end Cert.KernelProof

end
-- ==== Proof.Steps.lean ====
/-
# The thirty steps, and the last sends

`wp_steps`: from the state before step `30 - n` to that after the last step; `wp_drain`: the last two sends of a ring waited
for, their segments back in the result buffer.
-/
module

public import proofs.«01_k».proof.Proof.RingStep

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-- What a device owes before step `s`. -/
def owed (c : Dev nD) (s : ℕ) : CellTallies nD τ sig ℕ := rdebt 0 c s + rdebt 1 c s + rdebt 2 c s + rdebt 3 c s

variable (P : Dev nD → Vec F S4096x2048 .f32)
variable (κ : Dev nD × Kd → ℕ) (ιs : Key → ℕ)
variable (c : Dev nD) (k : Fin 4)
variable (x : Vec F S4096x256 .f32) (w : Vec F S256x2048 .f32)

/-- A device's state before step `s`. -/
def St (s : ℕ) : sProp 𝕄 :=
  iprop(xPt c x ∗ wPt c w ∗ (RS 0 c s ∗ RS 1 c s ∗ RS 2 c s ∗ RS 3 c s) ∗ Out P c s (fun _ => s) ∗ ow c (owed c s))

theorem update_four (s : ℕ) :
    Function.update (Function.update (Function.update (Function.update (fun _ : Fin 4 => s) 0 (s + 1)) 2 (s + 1)) 1 (s + 1)) 3 (s + 1)
      = fun _ => s + 1 := by
  funext k
  fin_cases k <;> rfl

theorem above_three {A B C : CellTallies nD τ sig ℕ} {b : ℕ} (hA : Above A b) (hB : Above B b) (hC : Above C b) : Above (A + B + C) b :=
  above_add (above_add hA hB) hC

/-- A step. -/
theorem wp_step (hP : P c = prod x w) (s : ℕ) (hs : s < 30) (K : Cert.KernelProof.P F) (Q : PUnit → sProp 𝕄) :
    iprop(Pers P κ ιs ∗ St P c x w s) ⊢ iprop((St P c x w (s + 1) -∗ wpK c K Q) -∗ wpK c (step c s hs K) Q) := by
  have hr := fun k => rdebt_above c k s (2 * s + 2) le_rfl (by omega)
  have hr' := fun k => rdebt_above c k (s + 1) (2 * s + 2) (by omega) (by omega)
  unfold step St owed
  iintro ⟨#HP, Hx, Hw, ⟨R0, R1, R2, R3⟩, Ho, HO⟩ Hk
  iapply (wp_computes P c s x w hP _ Q) $$ [Hx Hw Ho]
  · isplitl [Hx]; · iexact Hx
    isplitl [Hw]; · iexact Hw
    iexact Ho
  iintro ⟨Hx, Hw, Ho⟩
  ihave HO := (Entails.of_eq (congrArg (ow (F := F) c) (show rdebt 0 c s + rdebt 1 c s + rdebt 2 c s + rdebt 3 c s
    = (rdebt 1 c s + rdebt 2 c s + rdebt 3 c s) + rdebt 0 c s from by ac_rfl))) $$ HO
  iapply (wp_ringStep P κ ιs c 0 s hs (fun _ : Fin 4 => s) rfl _ Q _ (above_three (hr 1) (hr 2) (hr 3))) $$ [R0 Ho HO]
  · isplitr; · iexact HP
    isplitl [R0]; · iexact R0
    isplitl [Ho]; · iexact Ho
    iexact HO
  iintro ⟨R0, Ho, HO⟩
  ihave HO := (Entails.of_eq (congrArg (ow (F := F) c) (show (rdebt 1 c s + rdebt 2 c s + rdebt 3 c s) + rdebt 0 c (s + 1)
    = (rdebt 0 c (s + 1) + rdebt 1 c s + rdebt 3 c s) + rdebt 2 c s from by ac_rfl))) $$ HO
  iapply (wp_ringStep P κ ιs c 2 s hs (Function.update (fun _ : Fin 4 => s) 0 (s + 1)) rfl _ Q _ (above_three (hr' 0) (hr 1) (hr 3))) $$ [R2 Ho HO]
  · isplitr; · iexact HP
    isplitl [R2]; · iexact R2
    isplitl [Ho]; · iexact Ho
    iexact HO
  iintro ⟨R2, Ho, HO⟩
  ihave HO := (Entails.of_eq (congrArg (ow (F := F) c) (show (rdebt 0 c (s + 1) + rdebt 1 c s + rdebt 3 c s) + rdebt 2 c (s + 1)
    = (rdebt 0 c (s + 1) + rdebt 2 c (s + 1) + rdebt 3 c s) + rdebt 1 c s from by ac_rfl))) $$ HO
  iapply (wp_ringStep P κ ιs c 1 s hs (Function.update (Function.update (fun _ : Fin 4 => s) 0 (s + 1)) 2 (s + 1)) rfl _ Q _ (above_three (hr' 0) (hr' 2) (hr 3))) $$ [R1 Ho HO]
  · isplitr; · iexact HP
    isplitl [R1]; · iexact R1
    isplitl [Ho]; · iexact Ho
    iexact HO
  iintro ⟨R1, Ho, HO⟩
  ihave HO := (Entails.of_eq (congrArg (ow (F := F) c) (show (rdebt 0 c (s + 1) + rdebt 2 c (s + 1) + rdebt 3 c s) + rdebt 1 c (s + 1)
    = (rdebt 0 c (s + 1) + rdebt 1 c (s + 1) + rdebt 2 c (s + 1)) + rdebt 3 c s from by ac_rfl))) $$ HO
  iapply (wp_ringStep P κ ιs c 3 s hs (Function.update (Function.update (Function.update (fun _ : Fin 4 => s) 0 (s + 1)) 2 (s + 1)) 1 (s + 1)) rfl _ Q _ (above_three (hr' 0) (hr' 1) (hr' 2))) $$ [R3 Ho HO]
  · isplitr; · iexact HP
    isplitl [R3]; · iexact R3
    isplitl [Ho]; · iexact Ho
    iexact HO
  rw [update_four]
  iintro ⟨R3, Ho, HO⟩
  iapply Hk
  isplitl [Hx]; · iexact Hx
  isplitl [Hw]; · iexact Hw
  isplitl [R0 R1 R2 R3]
  · isplitl [R0]; · iexact R0
    isplitl [R1]; · iexact R1
    isplitl [R2]; · iexact R2
    iexact R3
  isplitl [Ho]; · iexact Ho
  iexact HO

/-- The last `n` steps. -/
theorem wp_steps (hP : P c = prod x w) (K : Cert.KernelProof.P F) (Q : PUnit → sProp 𝕄) : (n : ℕ) → (h : n ≤ 30) →
    iprop(Pers P κ ιs ∗ St P c x w (30 - n)) ⊢ iprop((St P c x w 30 -∗ wpK c K Q) -∗ wpK c (steps c n h K) Q)
  | 0, _ => by
    unfold steps
    iintro ⟨#HP, H⟩ Hk
    iapply Hk; iexact H
  | n + 1, h => by
    have ih := wp_steps hP K Q n (by omega)
    have h1 : 29 - n < 30 := by omega
    have h2 : n ≤ 30 := by omega
    unfold steps
    iintro ⟨#HP, H⟩ Hk
    iapply (wp_step P κ ιs c x w hP (29 - n) h1 (steps c n h2 K) Q) $$ [H]
    · isplitr; · iexact HP
      rw [show 29 - n = 30 - (n + 1) from by omega]
      iexact H
    rw [show 29 - n + 1 = 30 - n from by omega]
    iintro H
    iapply ih $$ [H]
    · isplitr; · iexact HP
      iexact H
    iexact Hk

/-! ## The last sends -/

/-- What is held when the rings `D` are drained. -/
def heldD (D : Finset (Fin 4)) : Finset (Fin 64) := Finset.univ.filter fun n => rk n ∈ D ∨ n ∈ held c fun _ => 30

theorem away_end (v : ℕ) : Away 30 v ↔ v = 28 % 16 ∨ v = 29 % 16 := by unfold Away; omega

theorem heldD_insert (D : Finset (Fin 4)) (hk : k ∉ D) :
    insert (sg k c 29) (insert (sg k c 28) (heldD c D)) = heldD c (insert k D) ∧ sg k c 28 ∉ heldD c D ∧ sg k c 29 ∉ insert (sg k c 28) (heldD c D) := by
  refine ⟨?_, ?_, ?_⟩
  · ext n
    have hn := ui_lt c n
    simp only [heldD, Finset.mem_insert, Finset.mem_filter, Finset.mem_univ, _root_.true_and]
    rw [eq_sg_iff k c 29 (by omega), eq_sg_iff k c 28 (by omega), mem_held]
    have e := away_end (ui c n)
    by_cases h : rk n = k
    · constructor
      · intro _; exact .inl (.inl h)
      · intro _
        by_cases h' : Away 30 (ui c n)
        · rcases e.1 h' with h' | h'
          · exact .inr (.inl ⟨h, h'⟩)
          · exact .inl ⟨h, h'⟩
        · exact .inr (.inr (.inr h'))
    · constructor
      · rintro (h' | h' | h' | h')
        · exact absurd h'.1 h
        · exact absurd h'.1 h
        · exact .inl (.inr h')
        · exact .inr h'
      · rintro ((h' | h') | h')
        · exact absurd h' h
        · exact .inr (.inr (.inl h'))
        · exact .inr (.inr (.inr h'))
  · simp only [heldD, Finset.mem_filter, Finset.mem_univ, _root_.true_and, rk_sg, mem_held, ui_sg k c 28 (by omega)]
    rintro (h | h)
    · exact hk h
    · exact h ((away_end _).2 (.inl rfl))
  · rw [Finset.mem_insert, eq_sg_iff k c 28 (by omega), ui_sg k c 29 (by omega)]
    simp only [heldD, Finset.mem_filter, Finset.mem_univ, _root_.true_and, rk_sg, mem_held, ui_sg k c 29 (by omega)]
    rintro (h | h | h)
    · exact absurd h (by decide)
    · exact hk h
    · exact h ((away_end _).2 (.inr rfl))

theorem oPt_put_same {H : Finset (Fin 64)} {n : Fin 64} (h : n ∉ H) (f : Vec F S4096x2048 .f32) :
    (iprop(oPt c {n} f ∗ oPt c H f) : sProp 𝕄) ⊢ oPt c (insert n H) f :=
  (oPt_put c h f f).trans (Entails.of_eq (congrArg (oPt c (insert n H)) (funext fun i => ite_self _)))

/-- A ring's last two sends. -/
theorem wp_drain (D : Finset (Fin 4)) (hk : k ∉ D) (K : Cert.KernelProof.P F) (Q : PUnit → sProp 𝕄) :
    iprop(Pers P κ ιs ∗ SendR k c 28 30 ∗ oPt c (heldD c D) (fin P) ∗ ow c 0)
      ⊢ iprop(((SendR k c 30 30 ∗ oPt c (heldD c (insert k D)) (fin P) ∗ ow c 0) -∗ wpK c K Q) -∗ wpK c (drain k c K) Q) := by
  obtain ⟨hD, h28, h29⟩ := heldD_insert c k D hk
  have l28 : 28 < 30 := by decide
  have l29 : 29 < 30 := by decide
  rw [← hD]
  unfold drain
  rw [show (0 : Fin 2) = slotOf 28 from rfl, show (1 : Fin 2) = slotOf 29 from rfl]
  iintro ⟨#HP, Hs, Ho, HO⟩ Hk
  iapply (turn_sent P κ ιs c k 28 30 l28 (by decide) _ Q 0 (above_zero 0)) $$ [Hs HO]
  · isplitr; · iexact HP
    isplitl [Hs]; · iexact Hs
    iexact HO
  rw [show snt P k 28 c = fin P from funext fun i => if_neg (by decide)]
  iintro ⟨Hs, _, Hb, HO⟩
  ihave Ho := (oPt_put_same c h28 (fin P)) $$ [Hb Ho]
  · isplitl [Hb]; · iexact Hb
    iexact Ho
  iapply (turn_sent P κ ιs c k 29 30 l29 (by decide) _ Q 0 (above_zero 0)) $$ [Hs HO]
  · isplitr; · iexact HP
    isplitl [Hs]; · iexact Hs
    iexact HO
  rw [show snt P k 29 c = fin P from funext fun i => if_neg (by decide)]
  iintro ⟨Hs, _, Hb, HO⟩
  ihave Ho := (oPt_put_same c h29 (fin P)) $$ [Hb Ho]
  · isplitl [Hb]; · iexact Hb
    iexact Ho
  iapply Hk
  isplitl [Hs]; · iexact Hs
  isplitl [Ho]; · iexact Ho
  iexact HO

/-- The parts of a ring at the end. -/
def RE : sProp 𝕄 := iprop(RecvR k c 30 ∗ CredR k c 28 ∗ WaitC k c 28 ∗ SendR k c 30 30)

/-- Nothing is owed at the end. -/
theorem owed_end : owed c 30 = 0 := by
  have h : ∀ k, rdebt k c 30 = 0 := fun k => debt_done k c _ _ (by decide) (by decide)
  unfold owed
  rw [h, h, h, h, add_zero, add_zero, add_zero]

/-- The four drains: every ring at its end, the whole result buffer finished. -/
theorem wp_drains (K : Cert.KernelProof.P F) (Q : PUnit → sProp 𝕄) :
    iprop(Pers P κ ιs ∗ St P c x w 30)
      ⊢ iprop(((xPt c x ∗ wPt c w ∗ (RE c 0 ∗ RE c 1 ∗ RE c 2 ∗ RE c 3) ∗ oPt c Finset.univ (fin P) ∗ ow c 0) -∗ wpK c K Q)
        -∗ wpK c (drain 0 c (drain 2 c (drain 1 c (drain 3 c K)))) Q) := by
  have hall : heldD c (insert 3 (insert 1 (insert 2 (insert 0 ∅)))) = Finset.univ := by
    ext n
    simp only [heldD, Finset.mem_filter, Finset.mem_univ, _root_.true_and, iff_true]
    left
    have : ∀ k : Fin 4, k ∈ (insert 3 (insert 1 (insert 2 (insert 0 (∅ : Finset (Fin 4)))))) := by decide
    exact this _
  have hnone : heldD c ∅ = held c fun _ => 30 := by
    ext n
    simp only [heldD, Finset.mem_filter, Finset.mem_univ, _root_.true_and, Finset.notMem_empty, false_or]
  unfold St Out RS RE
  rw [owed_end]
  iintro ⟨#HP, Hx, Hw, ⟨⟨_, A0, B0, C0, S0, _⟩, ⟨_, A1, B1, C1, S1, _⟩, ⟨_, A2, B2, C2, S2, _⟩, ⟨_, A3, B3, C3, S3, _⟩⟩, ⟨%f, %hf, Ho⟩, HO⟩ Hk
  ihave Ho := (show (oPt c (held c fun _ => 30) f : sProp 𝕄) ⊢ oPt c (heldD c ∅) (fin P) from by
    rw [hnone]
    exact Entails.of_eq (pointsTo_congr fun i hi => good_end P hf i (mem_hset.1 hi))) $$ Ho
  iapply (wp_drain P κ ιs c 0 ∅ (by decide) _ Q) $$ [S0 Ho HO]
  · isplitr; · iexact HP
    isplitl [S0]; · iexact S0
    isplitl [Ho]; · iexact Ho
    iexact HO
  iintro ⟨S0, Ho, HO⟩
  iapply (wp_drain P κ ιs c 2 (insert 0 ∅) (by decide) _ Q) $$ [S2 Ho HO]
  · isplitr; · iexact HP
    isplitl [S2]; · iexact S2
    isplitl [Ho]; · iexact Ho
    iexact HO
  iintro ⟨S2, Ho, HO⟩
  iapply (wp_drain P κ ιs c 1 (insert 2 (insert 0 ∅)) (by decide) _ Q) $$ [S1 Ho HO]
  · isplitr; · iexact HP
    isplitl [S1]; · iexact S1
    isplitl [Ho]; · iexact Ho
    iexact HO
  iintro ⟨S1, Ho, HO⟩
  iapply (wp_drain P κ ιs c 3 (insert 1 (insert 2 (insert 0 ∅))) (by decide) _ Q) $$ [S3 Ho HO]
  · isplitr; · iexact HP
    isplitl [S3]; · iexact S3
    isplitl [Ho]; · iexact Ho
    iexact HO
  rw [hall]
  iintro ⟨S3, Ho, HO⟩
  iapply Hk
  isplitl [Hx]; · iexact Hx
  isplitl [Hw]; · iexact Hw
  isplitr [Ho HO]
  · isplitl [A0 B0 C0 S0]
    · isplitl [A0]; · iexact A0
      isplitl [B0]; · iexact B0
      isplitl [C0]; · iexact C0
      iexact S0
    isplitl [A1 B1 C1 S1]
    · isplitl [A1]; · iexact A1
      isplitl [B1]; · iexact B1
      isplitl [C1]; · iexact C1
      iexact S1
    isplitl [A2 B2 C2 S2]
    · isplitl [A2]; · iexact A2
      isplitl [B2]; · iexact B2
      isplitl [C2]; · iexact C2
      iexact S2
    isplitl [A3]; · iexact A3
    isplitl [B3]; · iexact B3
    isplitl [C3]; · iexact C3
    iexact S3
  isplitl [Ho]; · iexact Ho
  iexact HO

end Cert.KernelProof

end
-- ==== Proof.Open.lean ====
/-
# The barrier, the slots and the closing of the cells

The receive buffers as two slots and back, the freeing of the first landing places, the barrier (`wp_bar`), and the cells
at the end of the body (`close_ring`, `close_bar`).
-/
module

public import proofs.«01_k».proof.Proof.Steps

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-! ## A receive buffer and its two slots -/

/-- Ring `k`'s receive buffer, with whatever contents. -/
def scr (k : Fin 4) (c : Dev nD) : sProp 𝕄 := slot ((rM k).view.loc (c : Thread nD τ)) Finset.univ

theorem slotRect_mem (b : Fin 2) (i : S2x64x2048.Idx) : i ∈ (slotRect b).set ↔ (i 0).val = b.val := by
  unfold slotRect
  rw [Rect.mem_set_unit]
  have h1 : (i 1).val < 64 := (i 1).isLt
  have h2 : (i 2).val < 2048 := (i 2).isLt
  constructor
  · intro h
    have h0 : b.val ≤ (i 0).val ∧ (i 0).val < b.val + 1 := h 0
    omega
  · rintro h a
    fin_cases a
    · show b.val ≤ (i 0).val ∧ (i 0).val < b.val + 1
      omega
    · show 0 ≤ (i 1).val ∧ (i 1).val < 0 + 64
      omega
    · show 0 ≤ (i 2).val ∧ (i 2).val < 0 + 2048
      omega

theorem slotRect_compl : (slotRect 1).set = Finset.univ \ (slotRect 0).set := by
  ext i
  have h : (i 0).val < 2 := (i 0).isLt
  rw [Finset.mem_sdiff, slotRect_mem, slotRect_mem]
  show (i 0).val = 1 ↔ i ∈ Finset.univ ∧ ¬ (i 0).val = 0
  constructor
  · intro h; exact ⟨Finset.mem_univ _, by omega⟩
  · rintro ⟨-, h⟩; omega

theorem slot_compl (k : Fin 4) : (slotM (rM k) 1).view.set = Finset.univ \ (slotM (rM k) 0).view.set := by
  rw [slot_set, slot_set]
  fin_cases k
  all_goals exact (View.set_slice_whole _ _).trans (slotRect_compl.trans (congrArg (Finset.univ \ ·) (View.set_slice_whole _ _).symm))

variable (P : Dev nD → Vec F S4096x2048 .f32)
variable (κ : Dev nD × Kd → ℕ) (ιs : Key → ℕ)
variable (c : Dev nD) (k : Fin 4)

/-- The buffer is its two slots, -/
theorem scr_split : (scr k c : sProp 𝕄) ⊢ iprop(slotAny k c 0 ∗ slotAny k c 1) := by
  unfold scr slotAny slot
  iintro ⟨%f, H⟩
  ihave H := (show ((rM k).view.loc (c : Thread nD τ) ↦[Finset.univ]{fullShare} f : sProp 𝕄)
      ⊢ iprop(((slotM (rM k) 0).view.loc (c : Thread nD τ) ↦[(slotM (rM k) 0).view.set]{fullShare} f)
        ∗ ((slotM (rM k) 1).view.loc (c : Thread nD τ) ↦[(slotM (rM k) 1).view.set]{fullShare} f)) from by
    rw [slot_compl]
    exact (pointsTo_split_subset (Finset.subset_univ _)).1) $$ H
  icases H with ⟨H0, H1⟩
  isplitl [H0]
  · iexists f; iexact H0
  iexists f; iexact H1

/-- and these together are the buffer. -/
theorem scr_join : (iprop(slotAny k c 1 ∗ slotAny k c 0) : sProp 𝕄) ⊢ scr k c := by
  unfold scr slotAny slot
  iintro ⟨⟨%g, H1⟩, ⟨%f, H0⟩⟩
  ihave H := (show iprop(((slotM (rM k) 0).view.loc (c : Thread nD τ) ↦[(slotM (rM k) 0).view.set]{fullShare} f)
        ∗ ((slotM (rM k) 1).view.loc (c : Thread nD τ) ↦[(slotM (rM k) 1).view.set]{fullShare} g))
      ⊢ (((rM k).view.loc (c : Thread nD τ) ↦[Finset.univ]{fullShare} ((slotM (rM k) 0).view.set.piecewise f g)) : sProp 𝕄) from by
    rw [slot_compl]
    exact pointsTo_join_subset (Finset.subset_univ _)) $$ [H0 H1]
  · isplitl [H0]; · iexact H0
    iexact H1
  iexists _; iexact H

/-! ## The first landing places -/

omit [FloatOps F] in
theorem place_slot (u : ℕ) (h : u < 15) : (place (c, k, u) : sProp 𝕄) = slotAny k c u := if_pos h

/-- The first two landing places of a ring freed. -/
theorem open_ring :
    iprop(Pers P κ ιs ∗ scr k c ∗ bigSep (Finset.Ico 0 30) fun u => readerAt ES (c, k, u) 0)
      ⊢ |={Set.univ}=> (iprop((freed c k 0 ∗ freed c k 1) ∗ bigSep (Finset.Ico (0 + 2) 30) fun u => readerAt ES (c, k, u) 0) : sProp 𝕄) := by
  rw [ico_first (show 0 < 30 by decide), ico_first (show 0 + 1 < 30 by decide)]
  iintro ⟨#HP, Hs, Hr0, Hr1, Hrs⟩
  ihave Hs := (scr_split c k) $$ Hs
  icases Hs with ⟨H0, H1⟩
  imod (slot_release ES (Set.mem_univ (ιs (c, k, 0))) (place_excl (c, k, 0)) 0) $$ [Hr0 H0] with ⟨_, #F0⟩
  · isplitr; · iapply (pers_slot P κ ιs c k 0 (by decide)); iexact HP
    isplitl [Hr0]; · iexact Hr0
    rw [place_slot c k 0 (by decide)]; iexact H0
  imod (slot_release ES (Set.mem_univ (ιs (c, k, 1))) (place_excl (c, k, 1)) 0) $$ [Hr1 H1] with ⟨_, #F1⟩
  · isplitr; · iapply (pers_slot P κ ιs c k 1 (by decide)); iexact HP
    isplitl [Hr1]; · iexact Hr1
    rw [place_slot c k 1 (by decide)]; iexact H1
  imodintro
  isplitr
  · unfold freed
    isplitr; · iexact F0
    iexact F1
  iexact Hrs

/-! ## The barrier -/

/-- A device's part of the barrier. -/
def BarR : sProp 𝕄 :=
  iprop(atPos ER (barC c) 0 ∅ 0 ∗ dutyTok ER (barC (leftD c)) 0 0 ∗ dutyTok ER (barC (rightD c)) 0 1 ∗ cred (tallyAt (barC c) 0 2))

/-- A signal to a neighbour's barrier semaphore. -/
theorem wp_barSignal (d : Dev nD) (j : ℕ) (hj : j ∈ ({0, 1} : Finset ℕ)) (Pay : sProp 𝕄) (hp : (ringRd P).payload (barC d) 0 j = Pay)
    (K : Cert.KernelProof.P F) (Q : PUnit → sProp 𝕄) (O : CellTallies nD τ sig ℕ) :
    iprop(Pers P κ ιs ∗ dutyTok ER (barC d) 0 j ∗ Pay ∗ ow c (O + tallyAt (barC d) 0 1))
      ⊢ iprop((ow c O -∗ wpK c K Q) -∗ wpK c (signal d barS K) Q) := by
  subst hp
  unfold ow signal
  iintro ⟨#HP, Ht, Hh, ⟨%W, HO⟩⟩ Hk
  iapply (Rounds.wp_signal 𝒱₀ ER (ringRd P) (c : Thread nD τ) none (dst := (d : Thread nD τ)) (κ := κ (d, none))
      (sem := barS) (r := 0) (d := j) (by rw [show (ringRd P).duties ((d : Thread nD τ), SemLoc.reg barS) 0 = {0, 1} from duties_bar P d]; exact hj)
      ((amount_bar P d j).trans (by decide)) 0 O rfl) $$ [Ht Hh HO]
  · isplitr; · iapply (pers_inv P κ ιs d none); iexact HP
    isplitl [HO]; · iexact HO
    isplitl [Ht]; · iexact Ht
    isplitl [Hh]
    · rw [show (ringRd P).payload ((d : Thread nD τ), SemLoc.reg barS) 0 j = (ringRd P).payload (barC d) 0 j from rfl]
      iexact Hh
    iapply (pers_reached P κ ιs d none); iexact HP
  iintro HO
  iapply Hk
  iexists W; iexact HO

/-- The barrier: what this device has freed is told to both neighbours, and theirs to it. -/
theorem wp_bar (K : Cert.KernelProof.P F) (Q : PUnit → sProp 𝕄) (O : CellTallies nD τ sig ℕ) (hO : Above O 1) :
    iprop(Pers P κ ιs ∗ BarR c ∗ opened c 0 1 ∗ opened c 2 3 ∗ ow c (O + tallyAt (barC (rightD c)) 0 1 + tallyAt (barC (leftD c)) 0 1))
      ⊢ iprop(((atPos ER (barC c) 1 ∅ 0 ∗ opened (rightD c) 0 1 ∗ opened (leftD c) 2 3 ∗ ow c O) -∗ wpK c K Q)
        -∗ wpK c (signal (leftD c) barS (signal (rightD c) barS (.op (.semWait barS (2#32 : BitVec 32).toInt) fun _ => K))) Q) := by
  unfold BarR
  iintro ⟨#HP, ⟨Hat, Ht0, Ht1, Hc⟩, Hop0, Hop1, HO⟩ Hk
  iapply (wp_barSignal P κ ιs c (leftD c) 0 (by decide) (opened c 0 1) ((payload_bar_zero P (leftD c)).trans (by rw [right_left])) _ Q _) $$ [Ht0 Hop0 HO]
  · isplitr; · iexact HP
    isplitl [Ht0]; · iexact Ht0
    isplitl [Hop0]; · iexact Hop0
    iexact HO
  iintro HO
  iapply (wp_barSignal P κ ιs c (rightD c) 1 (by decide) (opened c 2 3) ((payload_bar_one P (rightD c)).trans (by rw [left_right])) _ Q _) $$ [Ht1 Hop1 HO]
  · isplitr; · iexact HP
    isplitl [Ht1]; · iexact Ht1
    isplitl [Hop1]; · iexact Hop1
    iexact HO
  iintro HO
  unfold ow
  icases HO with ⟨%W, HO⟩
  iapply (Rounds.wp_wait_rest_token 𝒱₀ ER (ringRd P) (c : Thread nD τ) none (κ := κ (c, none)) (sm := smOf none)
      (wpE_semWait_eq 𝒱₀ (c : Thread nD τ) none Set.univ) (Set.mem_univ _) 0 (O := O) (W := W) (R := 0) (m := 0) (T := ∅)
      (by rw [show (ringRd P).expect ((c : Thread nD τ), smOf none) 0 = 2 from expect_bar P c]; decide)) $$ [Hc HO Hat]
  · isplitr; · iapply (pers_inv P κ ιs c none); iexact HP
    isplitl [Hc]; · iexact Hc
    isplitl [HO]; · iexact HO
    isplitr; · iapply (pers_mayWait P κ ιs c (smOf none) 0 (by decide) O 1 (le_of_eq (lv_cell c none 0)) hO); iexact HP
    iexact Hat
  iintro ⟨HO, Hat, -, Hpay⟩
  ihave Hpay := (Entails.of_eq (rest_bar P c)) $$ Hpay
  icases Hpay with ⟨H0, H1⟩
  iapply Hk
  isplitl [Hat]; · iexact Hat
  isplitl [H0]; · iexact H0
  isplitl [H1]; · iexact H1
  iexists _; iexact HO

/-! ## The cells close -/

theorem close_cell (x : Kd) (R : ℕ) (hc : ∀ r, R ≤ r → (ringRd P).duties (cell c x) r = ∅) :
    iprop(Pers P κ ιs ∗ atPos ER (cell c x) R ∅ 0) ⊢ |={Set.univ}=> (semVal (cell c x) 0 : sProp 𝕄) := by
  iintro ⟨#HP, H⟩
  iapply (Rounds.cell_close ER (ringRd P) (Set.mem_univ (κ (c, x))) (fun h => h) (R := R) hc)
  isplitr; · iapply (pers_inv P κ ιs c x); iexact HP
  iexact H

/-- The semaphores of ring `k` at zero. -/
def ZeroR : sProp 𝕄 :=
  iprop((bigSep Finset.univ fun b : Fin 2 => semVal (recvC c k b) 0) ∗ (bigSep Finset.univ fun b : Fin 2 => semVal (sendC c k b) 0) ∗ semVal (credC c k) 0)

theorem close_two (x : Fin 2 → Kd) (hc : ∀ b r, 15 ≤ r → (ringRd P).duties (cell c (x b)) r = ∅) :
    iprop(Pers P κ ιs ∗ bigSep Finset.univ fun b : Fin 2 => atPos ER (cell c (x b)) ((30 + 1 - b.val) / 2) ∅ 0)
      ⊢ |={Set.univ}=> (bigSep Finset.univ fun b : Fin 2 => (semVal (cell c (x b)) 0 : sProp 𝕄)) := by
  have h2 : ∀ Ψ : Fin 2 → sProp 𝕄, bigSep Finset.univ Ψ = iprop(Ψ 0 ∗ Ψ 1) := fun Ψ => by
    rw [bigSep_univ_eq_bigSepL [0, 1] (by decide) (by decide)]; rfl
  rw [h2, h2]
  iintro ⟨#HP, H0, H1⟩
  imod (close_cell P κ ιs c (x 0) 15 (hc 0)) $$ [H0] with H0
  · isplitr; · iexact HP
    iexact H0
  imod (close_cell P κ ιs c (x 1) 15 (hc 1)) $$ [H1] with H1
  · isplitr; · iexact HP
    iexact H1
  imodintro
  isplitl [H0]; · iexact H0
  iexact H1

/-- The two slots kept at the end. -/
theorem kept_end : (bigSep (Finset.Ico 13 (min 28 15)) fun u => slotAny k c u) ⊢ (iprop(slotAny k c 1 ∗ slotAny k c 0) : sProp 𝕄) := by
  rw [show min 28 15 = 13 + 1 + 1 from by decide, ico_first (show 13 < 13 + 1 + 1 by decide), ico_first (show 13 + 1 < 13 + 1 + 1 by decide)]
  unfold slotAny
  iintro ⟨H1, H0, _⟩
  isplitl [H1]; · iexact H1
  iexact H0

/-- A ring at its end: its semaphores at zero, its receive buffer whole. -/
theorem close_ring : iprop(Pers P κ ιs ∗ RE c k) ⊢ |={Set.univ}=> (iprop(ZeroR c k ∗ scr k c) : sProp 𝕄) := by
  unfold RE RecvR CredR WaitC SendR credAt ZeroR
  iintro ⟨#HP, ⟨_, Hr⟩, ⟨_, _, _, Hs⟩, ⟨⟨%T, %hT, Hc, _⟩, _⟩, ⟨_, Hsn⟩⟩
  obtain rfl : T = Finset.range 28 := by
    refine Finset.Subset.antisymm hT.1 (Finset.sdiff_eq_empty_iff_subset.1 (Finset.card_eq_zero.1 ?_))
    have := hT.2; omega
  imod (close_two P κ ιs c (fun b => some (k, .inl b)) (fun b => closed_recv P c k b)) $$ [Hr] with Hr
  · isplitr; · iexact HP
    iexact Hr
  imod (close_two P κ ιs c (fun b => some (k, .inr (.inl b))) (fun b => closed_send P c k b)) $$ [Hsn] with Hsn
  · isplitr; · iexact HP
    iexact Hsn
  imod (Rounds.fupd_skip ER (ringRd P) (κ := κ (c, some (k, .inr (.inr ())))) (g := credC c k) (R := 0) (T := Finset.range 28) (m := 28)
    (by rw [duties_cred]) (expect_cred P c k).symm (Set.mem_univ _)) $$ [Hc] with ⟨Hc, _⟩
  · isplitr; · iapply (pers_inv P κ ιs c (some (k, .inr (.inr ())))); iexact HP
    iexact Hc
  imod (close_cell P κ ιs c (some (k, .inr (.inr ()))) 1 (closed_cred P c k)) $$ [Hc] with Hc
  · isplitr; · iexact HP
    iexact Hc
  imodintro
  isplitl [Hr Hsn Hc]
  · isplitl [Hr]; · iexact Hr
    isplitl [Hsn]; · iexact Hsn
    iexact Hc
  iapply (scr_join c k)
  iapply (kept_end c k); iexact Hs

end Cert.KernelProof

end
-- ==== Proof.Body.lean ====
/-
# The body

The rule of the whole body of one device (`wp_body`): from what the launch deals it to its windows' staging buffers with
the finished result in the last, its semaphores at zero and its receive buffers back.
-/
module

public import proofs.«01_k».proof.Proof.Open

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-- What the launch deals a device for ring `k`. -/
def RInit (k : Fin 4) (c : Dev nD) : sProp 𝕄 :=
  iprop(RecvR k c 0 ∗ SendR k c 0 0 ∗ Toks k c 0 ∗ WaitC k c 0 ∗ (bigSep (Finset.Ico 0 28) fun s => dutyTok ER (credC (prv k c) k) 0 s)
    ∗ bigSep (Finset.Ico 0 30) fun u => readerAt ES (c, k, u) 0)

/-- What a device owes at the start. -/
def debt0 (c : Dev nD) : CellTallies nD τ sig ℕ := debt 0 c 0 0 + debt 1 c 0 0 + debt 2 c 0 0 + debt 3 c 0 0
def O₀ (c : Dev nD) : CellTallies nD τ sig ℕ := debt0 c + tallyAt (barC (rightD c)) 0 1 + tallyAt (barC (leftD c)) 0 1

variable (P : Dev nD → Vec F S4096x2048 .f32)
variable (κ : Dev nD × Kd → ℕ) (ιs : Key → ℕ)
variable (c : Dev nD) (k : Fin 4)
variable (x : Vec F S4096x256 .f32) (w : Vec F S256x2048 .f32)

theorem seg_chunk (i : S4096x2048.Idx) (h : segOf i = sg k c 0) : (i 0).val / 256 = c.val := by
  have h1 : (i 0).val / 64 = 4 * ch k c 0 + k.val := congrArg Fin.val h
  have hc : c.val < 16 := c.isLt
  have hk := k.isLt
  have : ch k c 0 = c.val := by unfold ch; split <;> omega
  omega

/-- The four first segments taken, what is held at step 0 is left. -/
theorem first_held :
    (((((Finset.univ : Finset (Fin 64)).erase (sg 0 c 0)).erase (sg 2 c 0)).erase (sg 1 c 0)).erase (sg 3 c 0)) = held c fun _ => 0 := by
  have hA : ∀ v, Away 0 v ↔ v = 0 % 16 := fun v => by unfold Away; omega
  ext n
  simp only [Finset.mem_erase, Finset.mem_univ, and_true, mem_held, ne_eq, eq_sg_iff _ c 0 (by decide : 0 ≤ 32) n, hA]
  have : rk n = 0 ∨ rk n = 1 ∨ rk n = 2 ∨ rk n = 3 := by
    have : ∀ k : Fin 4, k = 0 ∨ k = 1 ∨ k = 2 ∨ k = 3 := by decide
    exact this _
  rcases this with h | h | h | h <;> rw [h] <;> simp <;> tauto

theorem first_ne {k k' : Fin 4} (h : k ≠ k') : sg k c 0 ≠ sg k' c 0 := fun h' => h (by rw [← rk_sg k c 0, h', rk_sg])

/-- The first transfer of ring `k`. -/
theorem wp_first (H : Finset (Fin 64)) (hn : sg k c 0 ∈ H) (f : Vec F S4096x2048 .f32) (hf : ∀ i : S4096x2048.Idx, (i 0).val / 256 = c.val → f i = P c i)
    (K : Cert.KernelProof.P F) (Q : PUnit → sProp 𝕄) (O : CellTallies nD τ sig ℕ) (h0 : 0 < 30) :
    iprop(Pers P κ ιs ∗ SendR k c 0 0 ∗ Toks k c 0 ∗ oPt c H f ∗ freed (nxt k c) k 0 ∗ ow c (O + debt k c 0 0))
      ⊢ iprop(((SendR k c 0 1 ∗ Toks k c 1 ∗ oPt c (H.erase (sg k c 0)) f ∗ ow c (O + rdebt k c 0)) -∗ wpK c K Q)
        -∗ wpK c (enq k c 0 h0 0 K) Q) := by
  rw [show (0 : Fin 2) = slotOf 0 from rfl, show rdebt k c 0 = debt k c (0 + 1) 0 from rfl]
  iintro ⟨#HP, Hs, Ht, Ho, #Hf, HO⟩ Hk
  ihave Ho := (oPt_take c hn f) $$ Ho
  icases Ho with ⟨Hn, Ho⟩
  ihave Hn := (Entails.of_eq (oPt_congr (F := F) c (sg k c 0) f (snt P k 0 c) fun i hi => hf i (seg_chunk c k i hi))) $$ Hn
  iapply (turn_enq P κ ιs c k 0 0 h0 le_rfl K Q O 0) $$ [Hs Ht Hn HO]
  · isplitr; · iexact HP
    isplitl [Hs]; · iexact Hs
    isplitl [Ht]; · iexact Ht
    isplitl [Hn]; · iexact Hn
    isplitr
    · unfold avail
      isplitr; · iexact Hf
      iapply (pers_reached P κ ιs (nxt k c) (some (k, .inl (slotOf 0)))); iexact HP
    isplitr
    · iapply (pers_reached P κ ιs c (some (k, .inr (.inl (slotOf 0))))); iexact HP
    iexact HO
  iintro ⟨Hs, Ht, HO⟩
  iapply Hk
  isplitl [Hs]; · iexact Hs
  isplitl [Ht]; · iexact Ht
  isplitl [Ho]; · iexact Ho
  iexact HO

/-- A ring ready for its step 0. -/
theorem rs_zero :
    iprop(freed (nxt k c) k 1 ∗ RecvR k c 0 ∗ SendR k c 0 1 ∗ Toks k c 1 ∗ WaitC k c 0
        ∗ (bigSep (Finset.Ico 0 28) fun s => dutyTok ER (credC (prv k c) k) 0 s) ∗ bigSep (Finset.Ico (0 + 2) 30) fun u => readerAt ES (c, k, u) 0)
      ⊢ (RS k c 0 : sProp 𝕄) := by
  unfold RS CredR
  rw [show min 0 28 = 0 from rfl, show min (0 + 1) 30 = 1 from rfl, Finset.range_zero, bigSep_empty,
    Finset.Ico_eq_empty (show ¬ 13 < min 0 15 by decide), bigSep_empty]
  iintro ⟨Hf, Hr, Hs, Ht, Hw, Hd, Hrd⟩
  isplitl [Hf]; · iexact Hf
  isplitl [Hr]; · iexact Hr
  isplitl [Hd Hrd]
  · isplitl [Hd]; · iexact Hd
    isplitl [Hrd]; · iexact Hrd
    isplitr <;> iempintro
  isplitl [Hw]; · iexact Hw
  isplitl [Hs]; · iexact Hs
  iexact Ht

/-- All of a device's semaphores at zero, its receive buffers whole. -/
def Done : sProp 𝕄 :=
  iprop(semVal (barC c) 0 ∗ (ZeroR c 0 ∗ scr 0 c) ∗ (ZeroR c 1 ∗ scr 1 c) ∗ (ZeroR c 2 ∗ scr 2 c) ∗ (ZeroR c 3 ∗ scr 3 c))

/-- The body of one device. -/
theorem wp_body (hP : P c = prod x w) (f : Vec F S4096x2048 .f32) (Q : PUnit → sProp 𝕄) :
    iprop(Pers P κ ιs ∗ BarR c ∗ (RInit 0 c ∗ scr 0 c) ∗ (RInit 1 c ∗ scr 1 c) ∗ (RInit 2 c ∗ scr 2 c) ∗ (RInit 3 c ∗ scr 3 c)
        ∗ xPt c x ∗ wPt c w ∗ oPt c Finset.univ f ∗ ow c (O₀ c))
      ⊢ iprop(((xPt c x ∗ wPt c w ∗ oPt c Finset.univ (fin P) ∗ Done c ∗ ow c 0) -∗ Q ⟨⟩) -∗ wpK c body Q) := by
  have hd : ∀ k, Above (debt k c 0 0) 1 := fun k => debt_above k c 0 0 1 (by decide) (by decide)
  have h0 : 0 < 30 := by decide
  have hf : ∀ i : S4096x2048.Idx, (i 0).val / 256 = c.val → setChunk c.val (prod x w) f i = P c i := fun i hi => by
    unfold setChunk; rw [if_pos hi, hP]
  unfold body RInit wpK
  rw [wp_deviceId]
  iintro ⟨#HP, HB, ⟨⟨A0, S0, T0, W0, D0, R0⟩, C0⟩, ⟨⟨A1, S1, T1, W1, D1, R1⟩, C1⟩, ⟨⟨A2, S2, T2, W2, D2, R2⟩, C2⟩, ⟨⟨A3, S3, T3, W3, D3, R3⟩, C3⟩, Hx, Hw, Ho, HO⟩ Hk
  iapply fupd_wp
  imod (open_ring P κ ιs c 0) $$ [C0 R0] with ⟨F0, R0⟩
  · isplitr; · iexact HP
    isplitl [C0]; · iexact C0
    iexact R0
  imod (open_ring P κ ιs c 1) $$ [C1 R1] with ⟨F1, R1⟩
  · isplitr; · iexact HP
    isplitl [C1]; · iexact C1
    iexact R1
  imod (open_ring P κ ιs c 2) $$ [C2 R2] with ⟨F2, R2⟩
  · isplitr; · iexact HP
    isplitl [C2]; · iexact C2
    iexact R2
  imod (open_ring P κ ιs c 3) $$ [C3 R3] with ⟨F3, R3⟩
  · isplitr; · iexact HP
    isplitl [C3]; · iexact C3
    iexact R3
  imodintro
  unfold O₀
  iapply (wp_bar P κ ιs c _ Q (debt0 c) (by unfold debt0; exact above_add (above_three (hd 0) (hd 1) (hd 2)) (hd 3))) $$ [HB F0 F1 F2 F3 HO]
  · isplitr; · iexact HP
    isplitl [HB]; · iexact HB
    unfold opened
    isplitl [F0 F1]
    · isplitl [F0]; · iexact F0
      iexact F1
    isplitl [F2 F3]
    · isplitl [F2]; · iexact F2
      iexact F3
    iexact HO
  unfold opened
  iintro ⟨HB, ⟨⟨#E0, #G0⟩, #E1, #G1⟩, ⟨⟨#E2, #G2⟩, #E3, #G3⟩, HO⟩
  iapply (wp_compute c (v := c.val) c.isLt (off1_eq c) (off2_eq c) _ _ Finset.univ (fun i _ => Finset.mem_univ _) x w f) $$ [Hx Hw Ho]
  · isplitl [Hx]; · iexact Hx
    isplitl [Hw]; · iexact Hw
    iexact Ho
  iintro ⟨Hx, Hw, Ho⟩
  ihave HO := (Entails.of_eq (congrArg (ow (F := F) c) (show debt0 c
    = (debt 1 c 0 0 + debt 2 c 0 0 + debt 3 c 0 0) + debt 0 c 0 0 from by unfold debt0; ac_rfl))) $$ HO
  iapply (wp_first P κ ιs c 0 Finset.univ (Finset.mem_univ _) _ hf _ Q _ h0) $$ [S0 T0 Ho HO]
  · isplitr; · iexact HP
    isplitl [S0]; · iexact S0
    isplitl [T0]; · iexact T0
    isplitl [Ho]; · iexact Ho
    isplitr; · iexact E0
    iexact HO
  iintro ⟨S0, T0, Ho, HO⟩
  ihave HO := (Entails.of_eq (congrArg (ow (F := F) c) (show (debt 1 c 0 0 + debt 2 c 0 0 + debt 3 c 0 0) + rdebt 0 c 0
    = (rdebt 0 c 0 + debt 1 c 0 0 + debt 3 c 0 0) + debt 2 c 0 0 from by ac_rfl))) $$ HO
  iapply (wp_first P κ ιs c 2 (Finset.univ.erase (sg 0 c 0)) (by simp [first_ne c (show (2 : Fin 4) ≠ 0 by decide)]) _ hf _ Q _ h0) $$ [S2 T2 Ho HO]
  · isplitr; · iexact HP
    isplitl [S2]; · iexact S2
    isplitl [T2]; · iexact T2
    isplitl [Ho]; · iexact Ho
    isplitr; · iexact E2
    iexact HO
  iintro ⟨S2, T2, Ho, HO⟩
  ihave HO := (Entails.of_eq (congrArg (ow (F := F) c) (show (rdebt 0 c 0 + debt 1 c 0 0 + debt 3 c 0 0) + rdebt 2 c 0
    = (rdebt 0 c 0 + rdebt 2 c 0 + debt 3 c 0 0) + debt 1 c 0 0 from by ac_rfl))) $$ HO
  iapply (wp_first P κ ιs c 1 ((Finset.univ.erase (sg 0 c 0)).erase (sg 2 c 0))
    (by simp [first_ne c (show (1 : Fin 4) ≠ 0 by decide), first_ne c (show (1 : Fin 4) ≠ 2 by decide)]) _ hf _ Q _ h0) $$ [S1 T1 Ho HO]
  · isplitr; · iexact HP
    isplitl [S1]; · iexact S1
    isplitl [T1]; · iexact T1
    isplitl [Ho]; · iexact Ho
    isplitr; · iexact E1
    iexact HO
  iintro ⟨S1, T1, Ho, HO⟩
  ihave HO := (Entails.of_eq (congrArg (ow (F := F) c) (show (rdebt 0 c 0 + rdebt 2 c 0 + debt 3 c 0 0) + rdebt 1 c 0
    = (rdebt 0 c 0 + rdebt 1 c 0 + rdebt 2 c 0) + debt 3 c 0 0 from by ac_rfl))) $$ HO
  iapply (wp_first P κ ιs c 3 (((Finset.univ.erase (sg 0 c 0)).erase (sg 2 c 0)).erase (sg 1 c 0))
    (by simp [first_ne c (show (3 : Fin 4) ≠ 0 by decide), first_ne c (show (3 : Fin 4) ≠ 1 by decide), first_ne c (show (3 : Fin 4) ≠ 2 by decide)]) _ hf _ Q _ h0) $$ [S3 T3 Ho HO]
  · isplitr; · iexact HP
    isplitl [S3]; · iexact S3
    isplitl [T3]; · iexact T3
    isplitl [Ho]; · iexact Ho
    isplitr; · iexact E3
    iexact HO
  rw [first_held]
  iintro ⟨S3, T3, Ho, HO⟩
  ihave R0 := (rs_zero (F := F) c 0) $$ [A0 S0 T0 W0 D0 R0]
  · isplitr; · iexact G0
    isplitl [A0]; · iexact A0
    isplitl [S0]; · iexact S0
    isplitl [T0]; · iexact T0
    isplitl [W0]; · iexact W0
    isplitl [D0]; · iexact D0
    iexact R0
  ihave R1 := (rs_zero (F := F) c 1) $$ [A1 S1 T1 W1 D1 R1]
  · isplitr; · iexact G1
    isplitl [A1]; · iexact A1
    isplitl [S1]; · iexact S1
    isplitl [T1]; · iexact T1
    isplitl [W1]; · iexact W1
    isplitl [D1]; · iexact D1
    iexact R1
  ihave R2 := (rs_zero (F := F) c 2) $$ [A2 S2 T2 W2 D2 R2]
  · isplitr; · iexact G2
    isplitl [A2]; · iexact A2
    isplitl [S2]; · iexact S2
    isplitl [T2]; · iexact T2
    isplitl [W2]; · iexact W2
    isplitl [D2]; · iexact D2
    iexact R2
  ihave R3 := (rs_zero (F := F) c 3) $$ [A3 S3 T3 W3 D3 R3]
  · isplitr; · iexact G3
    isplitl [A3]; · iexact A3
    isplitl [S3]; · iexact S3
    isplitl [T3]; · iexact T3
    isplitl [W3]; · iexact W3
    isplitl [D3]; · iexact D3
    iexact R3
  iapply (wp_steps P κ ιs c x w hP _ Q 30 le_rfl) $$ [R0 R1 R2 R3 Hx Hw Ho HO]
  · isplitr; · iexact HP
    unfold St Out owed
    isplitl [Hx]; · iexact Hx
    isplitl [Hw]; · iexact Hw
    isplitl [R0 R1 R2 R3]
    · isplitl [R0]; · iexact R0
      isplitl [R1]; · iexact R1
      isplitl [R2]; · iexact R2
      iexact R3
    isplitl [Ho]
    · iexists _
      isplitr
      rotate_left
      · iexact Ho
      ipureintro; exact good_start P c _
    iexact HO
  iintro H
  iapply (wp_drains P κ ιs c x w _ Q) $$ [H]
  · isplitr; · iexact HP
    iexact H
  iintro ⟨Hx, Hw, ⟨E0, E1, E2, E3⟩, Ho, HO⟩
  unfold wpK
  rw [wp_ret]
  imod (close_ring P κ ιs c 0) $$ [E0] with E0
  · isplitr; · iexact HP
    iexact E0
  imod (close_ring P κ ιs c 1) $$ [E1] with E1
  · isplitr; · iexact HP
    iexact E1
  imod (close_ring P κ ιs c 2) $$ [E2] with E2
  · isplitr; · iexact HP
    iexact E2
  imod (close_ring P κ ιs c 3) $$ [E3] with E3
  · isplitr; · iexact HP
    iexact E3
  imod (close_cell P κ ιs c none 1 (closed_bar P c)) $$ [HB] with HB
  · isplitr; · iexact HP
    iexact HB
  imodintro
  iapply Hk
  isplitl [Hx]; · iexact Hx
  isplitl [Hw]; · iexact Hw
  isplitl [Ho]; · iexact Ho
  isplitr [HO]
  · unfold Done
    isplitl [HB]; · iexact HB
    isplitl [E0]; · iexact E0
    isplitl [E1]; · iexact E1
    isplitl [E2]; · iexact E2
    iexact E3
  iexact HO

end Cert.KernelProof

end
-- ==== Proof.Deal.lean ====
/-
# What the launch deals

The ghost state of the launch, made once for the whole mesh and dealt out: to each device its positions on its own cells, the
tokens of the arrivals, departures and credits that it is the one to cause, the counts of its own landing places, and the
right to fill those of the devices its rings send to.
-/
module

public import proofs.«01_k».proof.Proof.Body

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-! ## Indexed conjunctions -/

omit [FloatOps F] in
theorem fin_ico (n : ℕ) (Φ : ℕ → sProp 𝕄) : (bigSep (Finset.univ : Finset (Fin n)) fun i => Φ i.val) = bigSep (Finset.Ico 0 n) Φ := by
  rw [show Finset.Ico 0 n = (Finset.univ : Finset (Fin n)).map Fin.valEmbedding from by
    rw [Fin.map_valEmbedding_univ]; ext i; simp, bigSep_map]; rfl

omit [FloatOps F] in
theorem fin_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem fin_two (Φ : Fin 2 → sProp 𝕄) : bigSep Finset.univ Φ = iprop(Φ 0 ∗ Φ 1) :=
  bigSep_univ_eq_bigSepL [0, 1] (by decide) (by decide) Φ

omit [FloatOps F] in
/-- Ring by ring: the receive pair, the send pair, the credit. -/
theorem rings_split (Φ : Fin 4 × RKind → sProp 𝕄) :
    bigSep Finset.univ Φ = bigSep Finset.univ fun k => iprop((bigSep Finset.univ fun b => Φ (k, .inl b))
      ∗ (bigSep Finset.univ fun b => Φ (k, .inr (.inl b))) ∗ Φ (k, .inr (.inr ()))) := by
  rw [bigSep_univ_prod]
  refine bigSep_congr fun k _ => ?_
  rw [bigSep_univ_sum, bigSep_univ_sum, show (Finset.univ : Finset Unit) = {()} from rfl, bigSep_singleton]
  rfl

omit [FloatOps F] in
/-- A device's cells: the barrier, and the rings'. -/
theorem kinds_split (Φ : Kd → sProp 𝕄) :
    bigSep Finset.univ Φ = iprop(Φ none ∗ bigSep Finset.univ fun x : Fin 4 × RKind => Φ (some x)) := by
  rw [bigSep_univ_at Φ none, show (Finset.univ : Finset Kd).erase none = Finset.univ.map Function.Embedding.some from by
    ext x; rcases x with _ | x <;> simp, bigSep_map]; rfl

/-- The device a ring sends to. -/
def ringE (k : Fin 4) : Dev nD ≃ Dev nD := ⟨nxt k, prv k, prv_nxt k, nxt_prv k⟩
def sideE : Dev nD ≃ Dev nD := ⟨rightD, leftD, left_right, right_left⟩

omit [FloatOps F] in
/-- Dealt around the rings. -/
theorem around (e : Fin 4 → Dev nD ≃ Dev nD) (Φ : Fin 4 → Dev nD → sProp 𝕄) :
    (bigSep Finset.univ fun c => bigSep Finset.univ fun k => Φ k c) = bigSep Finset.univ fun c => bigSep Finset.univ fun k => Φ k (e k c) := by
  rw [Pipeline.bigSep_univ_comm, Pipeline.bigSep_univ_comm (fun c k => Φ k (e k c))]
  exact bigSep_congr fun k _ => bigSep_univ_equiv (e k) (Φ k)

/-! ## Cells and tokens -/

def ringCells : Finset (GSem nD τ sig) := Finset.univ.map ⟨fun cx : Dev nD × Kd => cell cx.1 cx.2, cell_injective⟩

omit [FloatOps F] in
theorem cells_split (Φ : GSem nD τ sig → sProp 𝕄) :
    bigSep ringCells Φ = bigSep Finset.univ fun c : Dev nD => bigSep Finset.univ fun x : Kd => Φ (cell c x) := by
  unfold ringCells; rw [bigSep_map, bigSep_univ_prod]; rfl

/-- The duties of one device's cells: two barrier units; of each ring, 30 arrivals, 30 departures, 28 credits. -/
abbrev TokI : Type := Fin 2 ⊕ Fin 4 × (Fin 30 ⊕ Fin 30 ⊕ Fin 28)

def tokK : TokI → Kd × ℕ × ℕ
  | .inl d => (none, 0, d.val)
  | .inr (k, .inl u) => (some (k, .inl (slotOf u.val)), u.val / 2, 0)
  | .inr (k, .inr (.inl u)) => (some (k, .inr (.inl (slotOf u.val))), u.val / 2, 0)
  | .inr (k, .inr (.inr s)) => (some (k, .inr (.inr ())), 0, s.val)

theorem two_inj {n : ℕ} {u v : Fin n} (h : slotOf u.val = slotOf v.val) (h' : u.val / 2 = v.val / 2) : u = v := Fin.ext (by
  have : u.val % 2 = v.val % 2 := congrArg Fin.val h
  omega)

theorem tokK_injective : Function.Injective tokK := by
  rintro (d | ⟨k, u | u | s⟩) (d' | ⟨k', u' | u' | s'⟩) h <;> simp only [tokK, Prod.mk.injEq, Option.some.injEq, reduceCtorEq, Sum.inl.injEq, Sum.inr.injEq,
    _root_.false_and, and_false, _root_.and_true, _root_.true_and] at h
  · rw [Fin.ext h]
  · rw [h.1.1, two_inj h.1.2 h.2]
  · rw [h.1.1, two_inj h.1.2 h.2]
  · rw [h.1, Fin.ext h.2]

def tokOf (ci : Dev nD × TokI) : GSem nD τ sig × ℕ × ℕ := (cell ci.1 (tokK ci.2).1, (tokK ci.2).2)

theorem tokOf_injective : Function.Injective tokOf := by
  rintro ⟨c, i⟩ ⟨c', i'⟩ h
  have h1 := @cell_injective (c, (tokK i).1) (c', (tokK i').1) (congrArg Prod.fst h)
  have h2 : tokK i = tokK i' := Prod.ext (congrArg Prod.snd h1) (congrArg (fun y => y.2) h : (tokK i).2 = (tokK i').2)
  rw [show c = c' from congrArg Prod.fst h1, tokK_injective h2]

def ringToks : Finset (GSem nD τ sig × ℕ × ℕ) := Finset.univ.map ⟨tokOf, tokOf_injective⟩

/-- The tokens of the arrivals on device `c`, of its departures, of the credits it receives. -/
def arrToks (k : Fin 4) (c : Dev nD) : sProp 𝕄 := bigSep (Finset.Ico 0 30) fun u => dutyTok ER (recvC c k (slotOf u)) (u / 2) 0
def depToks (k : Fin 4) (c : Dev nD) : sProp 𝕄 := bigSep (Finset.Ico 0 30) fun u => dutyTok ER (sendC c k (slotOf u)) (u / 2) 0
def credToks (k : Fin 4) (c : Dev nD) : sProp 𝕄 := bigSep (Finset.Ico 0 28) fun s => dutyTok ER (credC c k) 0 s

omit [FloatOps F] in
theorem toks_split :
    (bigSep ringToks fun x => dutyTok ER x.1 x.2.1 x.2.2 : sProp 𝕄) = bigSep Finset.univ fun c : Dev nD =>
      iprop((dutyTok ER (barC c) 0 0 ∗ dutyTok ER (barC c) 0 1) ∗ bigSep Finset.univ fun k => iprop(arrToks k c ∗ depToks k c ∗ credToks k c)) := by
  unfold ringToks
  rw [bigSep_map, bigSep_univ_prod]
  refine bigSep_congr fun c _ => ?_
  rw [bigSep_univ_sum, fin_two, bigSep_univ_prod]
  refine congrArg₂ _ rfl (bigSep_congr fun k _ => ?_)
  rw [bigSep_univ_sum, bigSep_univ_sum]
  unfold arrToks depToks credToks
  rw [← fin_ico, ← fin_ico, ← fin_ico]
  rfl

/-! ## Landing places -/

theorem keyOf_injective : Function.Injective fun x : Dev nD × Fin 4 × Fin 30 => ((x.1, x.2.1, x.2.2.val) : Key) := by
  rintro ⟨c, k, u⟩ ⟨c', k', u'⟩ h
  simp only [Prod.mk.injEq] at h
  rw [h.1, h.2.1, Fin.ext h.2.2]

theorem keys_eq : keys = Finset.univ.map ⟨_, keyOf_injective⟩ := by
  ext ⟨c, k, u⟩
  simp only [keys, Finset.mem_product, Finset.mem_univ, Finset.mem_range, Finset.mem_map, Function.Embedding.coeFn_mk, Prod.mk.injEq, _root_.true_and]
  constructor
  · intro h; exact ⟨(c, k, ⟨u, h⟩), rfl, rfl, rfl⟩
  · rintro ⟨x, -, -, rfl⟩; exact x.2.2.isLt

omit [FloatOps F] in
theorem keys_split (Φ : Key → sProp 𝕄) :
    bigSep keys Φ = bigSep Finset.univ fun c : Dev nD => bigSep Finset.univ fun k => bigSep (Finset.Ico 0 30) fun u => Φ (c, k, u) := by
  rw [keys_eq, bigSep_map, bigSep_univ_prod]
  refine bigSep_congr fun c _ => ?_
  rw [bigSep_univ_prod]
  refine bigSep_congr fun k _ => ?_
  rw [← fin_ico]; rfl

omit [FloatOps F] in
theorem keys_one (Φ : Key × ℕ → sProp 𝕄) : bigSep (keys ×ˢ Finset.range 1) Φ = bigSep keys fun x => Φ (x, 0) := by
  rw [Finset.range_one, Finset.product_singleton, bigSep_map]; rfl

/-! ## A device's share -/

variable (P : Dev nD → Vec F S4096x2048 .f32)

/-- The counts of device `c`'s landing places; the right to fill them. -/
def readers (k : Fin 4) (c : Dev nD) : sProp 𝕄 := bigSep (Finset.Ico 0 30) fun u => readerAt ES (c, k, u) 0
def writers (k : Fin 4) (c : Dev nD) : sProp 𝕄 := bigSep (Finset.Ico 0 30) fun u => writeTok ES (c, k, u) 1

/-- Device `c`'s positions on ring `k`'s cells, at their starts. -/
def starts (k : Fin 4) (c : Dev nD) : sProp 𝕄 :=
  iprop((bigSep (Finset.univ : Finset (Fin 2)) fun b => atPos ER (recvC c k b) 0 ∅ 0)
    ∗ (bigSep (Finset.univ : Finset (Fin 2)) fun b => atPos ER (sendC c k b) 0 ∅ 0) ∗ atPos ER (credC c k) 0 ∅ 0)

/-- Device `c`'s share of ring `k`. -/
def RLin (k : Fin 4) (c : Dev nD) : sProp 𝕄 :=
  iprop(starts k c ∗ (arrToks k (nxt k c) ∗ depToks k c ∗ credToks k (prv k c)) ∗ readers k c ∗ writers k (nxt k c))

/-- Device `c`'s share. -/
def Lin (c : Dev nD) : sProp 𝕄 :=
  iprop((atPos ER (barC c) 0 ∅ 0 ∗ dutyTok ER (barC (leftD c)) 0 0 ∗ dutyTok ER (barC (rightD c)) 0 1) ∗ bigSep Finset.univ fun k => RLin k c)

omit [FloatOps F] in
/-- Everything dealt out. -/
theorem dealt :
    iprop((bigSep ringCells fun g => atPos ER g 0 ∅ 0) ∗ (bigSep ringToks fun x => dutyTok ER x.1 x.2.1 x.2.2)
        ∗ (bigSep keys fun x => readerAt ES x 0) ∗ bigSep (keys ×ˢ Finset.range 1) fun x => writeTok ES x.1 (x.2 + 1))
      ⊢ (bigSep Finset.univ Lin : sProp 𝕄) := by
  have hA : (bigSep ringCells fun g => (atPos ER g 0 ∅ 0 : sProp 𝕄))
      = iprop((bigSep Finset.univ fun c => atPos ER (barC c) 0 ∅ 0) ∗ bigSep Finset.univ fun c => bigSep Finset.univ fun k => starts k c) := by
    rw [cells_split, ← bigSep_sep']
    exact bigSep_congr fun c _ => by rw [kinds_split, rings_split]; rfl
  have hT : (bigSep ringToks fun x => (dutyTok ER x.1 x.2.1 x.2.2 : sProp 𝕄))
      = iprop(((bigSep Finset.univ fun c => dutyTok ER (barC (leftD c)) 0 0) ∗ bigSep Finset.univ fun c => dutyTok ER (barC (rightD c)) 0 1)
        ∗ bigSep Finset.univ fun c => bigSep Finset.univ fun k => iprop(arrToks k (nxt k c) ∗ depToks k c ∗ credToks k (prv k c))) := by
    rw [toks_split, bigSep_sep', bigSep_sep', bigSep_univ_equiv sideE.symm (fun c => (dutyTok ER (barC c) 0 0 : sProp 𝕄)),
      bigSep_univ_equiv sideE (fun c => (dutyTok ER (barC c) 0 1 : sProp 𝕄))]
    refine congrArg₂ _ rfl ?_
    simp only [bigSep_sep']
    rw [around ringE arrToks, around (fun k => (ringE k).symm) credToks]
    rfl
  have hR : (bigSep keys fun x => (readerAt ES x 0 : sProp 𝕄)) = bigSep Finset.univ fun c => bigSep Finset.univ fun k => readers k c := keys_split _
  have hW : (bigSep (keys ×ˢ Finset.range 1) fun x => (writeTok ES x.1 (x.2 + 1) : sProp 𝕄))
      = bigSep Finset.univ fun c => bigSep Finset.univ fun k => writers k (nxt k c) := by
    rw [keys_one, keys_split]; exact around ringE writers
  rw [hA, hT, hR, hW]
  unfold Lin RLin
  simp only [bigSep_sep']
  iintro ⟨⟨HB, HS⟩, ⟨⟨HL, HR⟩, HT⟩, Hr, Hw⟩
  isplitl [HB HL HR]
  · isplitl [HB]; · iexact HB
    isplitl [HL]; · iexact HL
    iexact HR
  isplitl [HS]; · iexact HS
  isplitl [HT]; · iexact HT
  isplitl [Hr]; · iexact Hr
  iexact Hw

end Cert.KernelProof

end
-- ==== Proof.Fund.lean ====
/-
# Funding the launch

The ghost state of `Deal.lean` made and put under the cells' invariants; the credits each device starts with.
-/
module

public import proofs.«01_k».proof.Proof.Deal

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

/-! ## Funding -/

section Fund
variable (P : Dev nD → Vec F S4096x2048 .f32)

def u₀ : UU :=
  (initOf (Pipeline.cells cfgs cellOf_inj) (Pipeline.launchToks cfgs cellOf_inj), (initOf ringCells ringToks, initSlots keys 1))

/-- The invariants of the landing places, at some names. -/
def places : sProp 𝕄 := iprop(∃ ιs : Key → ℕ, bigSep keys fun x => slotInv ES (ιs x) x (place x))

instance places_persistent : BI.Persistent (places (F := F)) := by unfold places; infer_instance

/-- What the launch makes for device `c`. -/
def G (c : Dev nD) : sProp 𝕄 :=
  iprop((bigSep Finset.univ fun x : Kd => roundState ER (ringRd P) (cell c x) 0) ∗ (bigSep Finset.univ fun x : Kd => reached ER (cell c x) 0) ∗ places ∗ Lin c)

theorem fund : BI.own (embR (initOf ringCells ringToks, initSlots keys 1)) ⊢ (|={Set.univ}=> bigSep Finset.univ (G P) : sProp 𝕄) := by
  iintro H
  ihave H := (show BI.own ((embR : Emb (UB × US) 𝕄) (initOf ringCells ringToks, initSlots keys 1))
      ⊢ iprop(BI.own ((ER : Emb UB 𝕄) (initOf ringCells ringToks)) ∗ BI.own ((ES : Emb US 𝕄) (initSlots keys 1)))
    from own_pair_emb (embR : Emb (UB × US) 𝕄) (initOf ringCells ringToks) (initSlots keys 1)) $$ H
  icases H with ⟨HX, HS⟩
  imod (Rounds.fund ER (ringRd P) ringCells ringToks) $$ HX with ⟨Hst, Hr, Hat, Htok⟩
  imod (slots_init ES keys 1 place (Es := Set.univ)) $$ HS with ⟨%ιs, -, #HI, Hrd, Hw⟩
  imodintro
  ihave HL := (dealt (F := F)) $$ [Hat Htok Hrd Hw]
  · isplitl [Hat]; · iexact Hat
    isplitl [Htok]; · iexact Htok
    isplitl [Hrd]; · iexact Hrd
    iexact Hw
  ihave Hst := (Entails.of_eq (cells_split fun g => roundState ER (ringRd P) g 0)) $$ Hst
  ihave Hr := (Entails.of_eq (cells_split fun g => reached ER g 0)) $$ Hr
  unfold G; simp only [bigSep_sep']
  isplitl [Hst]; · iexact Hst
  isplitl [Hr]; · iexact Hr
  isplitr [HL]
  · iapply (BI.bigSep_of_persistent (Finset.univ : Finset (Dev nD)) (places (F := F)))
    unfold places; iexists ιs; iexact HI
  iexact HL

/-! ## The cells' invariants -/

/-- The kernel's own semaphores. -/
abbrev osem : Fin 4 × RKind → SemLoc sig := fun x => smOf (some x)

theorem ownSemFacts : Pipeline.OwnSemFacts cfg0.spec osem := by decide +kernel

omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun x : Kd => semVal (cell c x) 0 : sProp 𝕄) := by
  rw [unscopedSems0_eq, kinds_split]
  unfold Pipeline.ownSems0
  iintro ⟨H, HB⟩
  isplitl [HB]; · iexact HB
  iexact H

/-- All cells' invariants at the names `κ`. -/
def cellsAt (κ : Dev nD × Kd → ℕ) : sProp 𝕄 :=
  iprop((bigSep Finset.univ fun cx : Dev nD × Kd => cellInv ER (ringRd P) (κ cx) (cell cx.1 cx.2)) ∗ bigSep Finset.univ fun cx : Dev nD × Kd => reached ER (cell cx.1 cx.2) 0)

instance cellsAt_persistent (κ : Dev nD × Kd → ℕ) : BI.Persistent (cellsAt P κ) := by unfold cellsAt; infer_instance

def G' (c : Dev nD) : sProp 𝕄 := iprop((∃ κ, cellsAt P κ) ∗ places ∗ Lin c)

theorem alloc (c : Dev nD) :
    iprop(Pipeline.ownSems0 (Ix := ℕ) (Name := ℕ) (U := UU) (Lvl := ℕ) (Val := Elt F) (τ := τ) osem c ∗ unscopedSems0 c ∗ G P c)
      ⊢ |={Set.univ}=> iprop((bigSep Finset.univ fun x : Kd => iprop(∃ κ : ℕ, cellInv ER (ringRd P) κ (cell c x)))
          ∗ (bigSep Finset.univ fun x : Kd => reached ER (cell c x) 0) ∗ places ∗ Lin c) := by
  unfold G
  iintro ⟨Hos, Hus, Hst, Hr⟩
  ihave Hv := (sems0_eq (F := F) c) $$ [Hos Hus]
  · isplitl [Hos] <;> iassumption
  imod (show iprop((bigSep Finset.univ fun x : Kd => semVal (cell c x) 0) ∗ bigSep Finset.univ fun x : Kd => roundState ER (ringRd P) (cell c x) 0)
      ⊢ (|={Set.univ}=> bigSep Finset.univ fun x : Kd => iprop(∃ κ : ℕ, cellInv ER (ringRd P) κ (cell c x)) : sProp 𝕄) from by
        rw [← bigSep_sep']
        exact (bigSep_mono fun x _ => (Rounds.body_intro ER (ringRd P) (cell c x)).trans inv_alloc).trans (bigSep_fupd _ _)) $$ [Hv Hst] with Hinv
  · isplitl [Hv] <;> iassumption
  imodintro
  isplitl [Hinv]; · iexact Hinv
  iexact Hr

theorem regroup :
    (bigSep Finset.univ fun c : Dev nD => iprop((bigSep Finset.univ fun x : Kd => iprop(∃ κ : ℕ, cellInv ER (ringRd P) κ (cell c x)))
          ∗ (bigSep Finset.univ fun x : Kd => reached ER (cell c x) 0) ∗ places ∗ Lin c) : sProp 𝕄)
      ⊢ bigSep Finset.univ (G' P) := by
  rw [bigSep_sep', bigSep_sep', ← bigSep_univ_prod (fun cx : Dev nD × Kd => iprop(∃ κ : ℕ, cellInv ER (ringRd P) κ (cell cx.1 cx.2))),
    ← bigSep_univ_prod (fun cx : Dev nD × Kd => (reached ER (cell cx.1 cx.2) 0 : sProp 𝕄))]
  unfold G'
  iintro ⟨HI, #HR, HL⟩
  ihave HK := (BI.bigSep_exists_pi Finset.univ (fun (cx : Dev nD × Kd) (κ : ℕ) => (cellInv ER (ringRd P) κ (cell cx.1 cx.2) : sProp 𝕄))) $$ HI
  icases HK with ⟨%κ, #HI⟩
  iapply (Entails.of_eq (bigSep_sep' (Finset.univ : Finset (Dev nD)) (fun _ => iprop(∃ κ, cellsAt P κ)) (fun c => iprop(places ∗ Lin c))).symm)
  isplitr [HL]
  · iapply (BI.bigSep_of_persistent (Finset.univ : Finset (Dev nD)) (iprop(∃ κ, cellsAt P κ)))
    iexists κ; unfold cellsAt
    isplitr; · iexact HI
    iexact HR
  iexact HL

/-- Every device's semaphores and launch share, put under the invariants. -/
theorem glob : (bigSep Finset.univ fun c => iprop(Pipeline.ownSems0 (Ix := ℕ) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => alloc P c).trans (bigSep_fupd _ _)).trans (BI.fupd_mono (regroup P))

/-! ## Credits -/

/-- What ring `k` of device `c` will receive. -/
def dues (k : Fin 4) (c : Dev nD) : sProp 𝕄 :=
  iprop((bigSep (Finset.Ico 0 30) fun u => cred (tallyAt (recvC c k (slotOf u)) u N)) ∗ bigSep (Finset.Ico 0 28) fun s => cred (tallyAt (credC c k) s 1))

omit [FloatOps F] in
theorem ring_creds (k : Fin 4) (c : Dev nD) : (Pipeline.launchCred (fun d => debt k d 0 0) c : sProp 𝕄) ⊢ dues k c := by
  unfold debt dues
  rw [Pipeline.launchCred_add, Pipeline.launchCred_sum, Pipeline.launchCred_sum]
  exact BI.sep_mono (bigSep_mono fun u _ => Pipeline.launchCred_tallyAt _ (nxt k) (prv k) (nxt_prv k) (prv_nxt k) u N c)
    (bigSep_mono fun s _ => Pipeline.launchCred_tallyAt _ (prv k) (nxt k) (prv_nxt k) (nxt_prv k) s 1 c)

omit [FloatOps F] in
theorem creds (c : Dev nD) :
    (Pipeline.launchCred O₀ c : sProp 𝕄) ⊢ iprop((dues 0 c ∗ dues 1 c ∗ dues 2 c ∗ dues 3 c) ∗ cred (tallyAt (barC c) 0 2)) := by
  rw [show (O₀ : Dev nD → CellTallies nD τ sig ℕ) = fun d => (((debt 0 d 0 0 + debt 1 d 0 0) + debt 2 d 0 0) + debt 3 d 0 0 + tallyAt (barC (rightD d)) 0 1) + tallyAt (barC (leftD d)) 0 1 from rfl,
    Pipeline.launchCred_add, Pipeline.launchCred_add, Pipeline.launchCred_add, Pipeline.launchCred_add, Pipeline.launchCred_add]
  iintro ⟨⟨⟨⟨⟨H0, H1⟩, H2⟩, H3⟩, HR⟩, HL⟩
  isplitl [H0 H1 H2 H3]
  · isplitl [H0]; · iapply (ring_creds (F := F) 0 c); iexact H0
    isplitl [H1]; · iapply (ring_creds (F := F) 1 c); iexact H1
    isplitl [H2]; · iapply (ring_creds (F := F) 2 c); iexact H2
    iapply (ring_creds (F := F) 3 c); iexact H3
  ihave HR := (Pipeline.launchCred_tallyAt (smOf none) rightD leftD right_left left_right 0 1 c) $$ HR
  ihave HL := (Pipeline.launchCred_tallyAt (smOf none) leftD rightD left_right right_left 0 1 c) $$ HL
  iapply (show iprop(cred (tallyAt (barC c) 0 1) ∗ cred (tallyAt (barC c) 0 1)) ⊢ (cred (tallyAt (barC c) 0 2) : sProp 𝕄) from
    (cred_add _ _).2.trans (Entails.of_eq (congrArg cred (by unfold tallyAt; rw [← tallyOn_add, ← Finsupp.single_add]))))
  isplitl [HR]; · iexact HR
  iexact HL

/-- Ring `k` of device `c` ready to start. -/
theorem rinit_intro (k : Fin 4) (c : Dev nD) : iprop(RLin k c ∗ dues k c) ⊢ (RInit k c : sProp 𝕄) := by
  have h0 : ∀ b : Fin 2, (0 + 1 - b.val) / 2 = 0 := by decide
  unfold RLin dues RInit starts RecvR SendR Toks WaitC arrToks depToks credToks readers writers
  simp only [h0]
  rw [bigSep_sep', bigSep_sep', Finset.Ico_self, bigSep_empty]
  iintro ⟨⟨⟨Hr, Hs, Hc⟩, ⟨Ha, Hd, Hq⟩, Hrd, Hw⟩, Hcr, Hcc⟩
  isplitl [Hcr Hr]
  · isplitl [Hcr]; · iexact Hcr
    iexact Hr
  isplitl [Hs]
  · isplitr; · iempintro
    iexact Hs
  isplitl [Ha Hd Hw]
  · isplitl [Ha]; · iexact Ha
    isplitl [Hd]; · iexact Hd
    iexact Hw
  isplitl [Hc Hcc]
  · isplitl [Hc]; · iapply (credAt_zero (F := F) c k); iexact Hc
    iexact Hcc
  isplitl [Hq]; · iexact Hq
  iexact Hrd

/-- What device `c`'s body starts from. -/
def start (c : Dev nD) : sProp 𝕄 := iprop((∃ κ ιs, Pers P κ ιs) ∗ BarR c ∗ RInit 0 c ∗ RInit 1 c ∗ RInit 2 c ∗ RInit 3 c)

theorem start_made (c : Dev nD) : iprop(levAts L lv ∗ Pipeline.launchCred O₀ c ∗ G' P c) ⊢ start P c := by
  unfold G' start Lin places cellsAt Pers BarR
  rw [fin_four]
  iintro ⟨#Hlev, Hcr, ⟨%κ, #HI, #HR⟩, ⟨%ιs, #HS⟩, ⟨Hat, HtL, HtR⟩, R0, R1, R2, R3⟩
  ihave Hc := (creds (F := F) c) $$ Hcr
  icases Hc with ⟨⟨C0, C1, C2, C3⟩, HB⟩
  isplitr
  · iexists κ; iexists ιs
    isplitr
    · rw [bigSep_sep']
      isplitr; · iexact HI
      iexact HR
    isplitr; · iexact HS
    iexact Hlev
  isplitl [Hat HtL HtR HB]
  · isplitl [Hat]; · iexact Hat
    isplitl [HtL]; · iexact HtL
    isplitl [HtR]; · iexact HtR
    iexact HB
  isplitl [R0 C0]
  · iapply (rinit_intro 0 c)
    isplitl [R0]; · iexact R0
    iexact C0
  isplitl [R1 C1]
  · iapply (rinit_intro 1 c)
    isplitl [R1]; · iexact R1
    iexact C1
  isplitl [R2 C2]
  · iapply (rinit_intro 2 c)
    isplitl [R2]; · iexact R2
    iexact C2
  iapply (rinit_intro 3 c)
  isplitl [R3]; · iexact R3
  iexact C3

end Fund

end Cert.KernelProof

end
-- ==== Proof.BodyEq.lean ====
/-
# The printed body is the loop

The equation between the printed body and the recursion of `Struct`.
-/
module

public import proofs.«01_k».proof.Proof.Struct

@[expose] public section

noncomputable section

namespace Cert.KernelProof

open Cert.KernelIdeal Cert.KernelIdeal.Gen
open Idealize.ShloMosaic Idealize.SL.Sem

variable {F : FTy → Type} [FloatOps F]

theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11
    cc0_scratch12 cc0_scratch13 cc0_scratch14 cc0_scratch15 = body := by
  sl_kernel_rfl

end Cert.KernelProof

end
-- ==== Proof.Launch.lean ====
/-
# The run

The pipeline's data for the one region of @main, the body's obligation, and the run of the whole mesh from any memory with
zero counters: it terminates, each device's arguments unchanged, each device's result array at the sum of the products.
-/
module

public import proofs.«01_k».proof.Proof.Fund
public import proofs.«01_k».proof.Proof.BodyEq
public import proofs.«01_k».proof.Proof.Gen.KernelIdeal.Points
public import Idealize.ShloMosaic.Lib.Pipeline.CollectiveSegs

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

open Idealize.ShloMosaic.Pipeline (Dat Cfg Window BodyObligation)

variable (m : (ℓ : Loc nD τ sig) → Buf (Elt F) ℓ) (ρ : Dev nD → PrngReg)

/-- The memory at the start: any contents, every counter zero. -/
def s₀ : MemSt nD τ sig (Elt F) := ⟨m, fun _ => 0, ρ⟩

/-! ## Contents -/

/-- Device `c`'s activations and weights blocks as staged; its product. -/
def xstg (c : Dev nD) : Vec F S4096x256 .f32 := (win0_0.blk (0 : Fin 1)).view.read (Elt F) ((s₀ m ρ).mem ((c : Thread nD τ).loc main_arg0))
def wstg (c : Dev nD) : Vec F S256x2048 .f32 := (win0_1.blk (0 : Fin 1)).view.read (Elt F) ((s₀ m ρ).mem ((c : Thread nD τ).loc main_arg1))
def prods (c : Dev nD) : Vec F S4096x2048 .f32 := prod (xstg m ρ c) (wstg m ρ c)

/-! ## The pipeline's data -/

/-- Before the one point: what the launch dealt, and the receive buffers. -/
def Φ₀ (c : Dev nD) : sProp 𝕄 := iprop(start (prods m ρ) c ∗ scr 0 c ∗ scr 1 c ∗ scr 2 c ∗ scr 3 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => fin (prods m ρ)
  Φ t := match t with
    | ⟨0, _⟩ => Φ₀ m ρ c
    | ⟨_ + 1, _⟩ => Done c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Done c ∗ (dats m ρ 0 c).owesAt (0 : ℕ) t0_0.succ ∗ stg c cc0_stg0_0 (xstg m ρ c) ∗ stg c cc0_stg1_0 (wstg m ρ c)
    ∗ stg c cc0_stg2_0 (fin (prods m ρ)))

theorem hset_univ : hset Finset.univ = Finset.univ := Finset.ext fun i => by rw [mem_hset]; simp

omit [FloatOps F] in
theorem oPt_univ (c : Dev nD) (f : Vec F S4096x2048 .f32) : (oPt c Finset.univ f : sProp 𝕄) = (((c : Thread nD τ).loc cc0_stg2_0) ↦{fullShare} f) := by
  unfold oPt; rw [hset_univ]

theorem sound_body (c : Dev nD) : bodyPre m ρ c ⊢ wpK c body fun _ => bodyPost m ρ c := by
  unfold bodyPre Φ₀ start
  iintro ⟨⟨⟨⟨%κ, %ιs, #HP⟩, HB, R0, R1, R2, R3⟩, C0, C1, C2, C3⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (wp_body (prods m ρ) κ ιs c (xstg m ρ c) (wstg m ρ c) rfl g2 (fun _ => bodyPost m ρ c)) $$ [HB R0 R1 R2 R3 C0 C1 C2 C3 Hx Hw Hout HO]
  · isplitr; · iexact HP
    isplitl [HB]; · iexact HB
    isplitl [R0 C0]
    · isplitl [R0]; · iexact R0
      iexact C0
    isplitl [R1 C1]
    · isplitl [R1]; · iexact R1
      iexact C1
    isplitl [R2 C2]
    · isplitl [R2]; · iexact R2
      iexact C2
    isplitl [R3 C3]
    · isplitl [R3]; · iexact R3
      iexact C3
    isplitl [Hx]; · iexact Hx
    isplitl [Hw]; · iexact Hw
    isplitl [Hout]; · rw [oPt_univ]; iexact Hout
    unfold ow; iexists W; iexact HO
  rw [oPt_univ]
  unfold ow
  iintro ⟨Hx, Hw, Hout, HD, ⟨%W', HO⟩⟩
  unfold bodyPost Dat.owesAt Pipeline.owesWithin
  rw [show (dats m ρ 0 c).owed t0_0.succ = 0 from rfl]
  isplitl [HD]; · iexact HD
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- What the pipeline calls at its one point is the body. -/
theorem called_eq : defs₀ (F := F) .tc cfg0.body (cfg0.bodyArgs t0_0 (cfg0.slots t0_0)) = body := by
  refine Eq.trans ?_ body_eq
  sl_kernel_rfl

/-- The pipeline's obligation of the body. -/
theorem body_obligation (c : Dev nD) : BodyObligation (dats (F := F) m ρ 0 c) (defs₀ (F := F)) 𝒱₀ (0 : ℕ) Set.univ := fun t => by
  rw [fin_N0 t, called_eq]
  rw [bigSep_W, bigSep_W]
  simp only [owns_whole_eq]
  have h1 : (dats m ρ 0 c).Φ t0_0.castSucc = Φ₀ m ρ c := rfl
  have h2 : (dats m ρ 0 c).Φ t0_0.succ = Done c := rfl
  have h3 : (dats m ρ 0 c).after (0 : Fin 3) t0_0 = xstg m ρ c := rfl
  have h4 : (dats m ρ 0 c).after (1 : Fin 3) t0_0 = wstg m ρ c := rfl
  have h5 : (dats m ρ 0 c).after (2 : Fin 3) t0_0 = fin (prods m ρ) := rfl
  rw [h1, h2, h3, h4, h5]
  have h := sound_body m ρ c
  unfold bodyPre bodyPost at h
  convert h using 3

/-! ## The launch theorem's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m ρ) c)
      ⊢ |={Set.univ}=> iprop(start (prods m ρ) c ∗ emp) := by
  iintro ⟨-, Hlev, Hcr, -, HG⟩
  imodintro
  isplitl
  · iapply (start_made (prods m ρ) c)
    isplitl [Hlev]; · iexact Hlev
    isplitl [Hcr]; · iexact Hcr
    iexact HG
  · iempintro

/-- The receive buffers as the launch has them. -/
theorem rest_eq (c : Dev nD) : (Pipeline.scopedRest cfg0.spec c : sProp 𝕄) = iprop(scr 0 c ∗ scr 1 c ∗ scr 2 c ∗ scr 3 c) := by
  rw [scopedRest0_eq]; rfl

theorem phi_first (c : Dev nD) :
    iprop(start (prods m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_eq]
  unfold Φ₀
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Done c from rfl, rest_eq, unscopedSems0_eq]
  have hz : (Pipeline.ownSems0 osem c : sProp 𝕄) = iprop(ZeroR c 0 ∗ ZeroR c 1 ∗ ZeroR c 2 ∗ ZeroR c 3) := by
    unfold Pipeline.ownSems0
    rw [rings_split, fin_four]; rfl
  rw [hz]
  unfold Done
  iintro ⟨HB, ⟨Z0, C0⟩, ⟨Z1, C1⟩, ⟨Z2, C2⟩, ⟨Z3, C3⟩⟩
  isplitl [HB]; · iexact HB
  isplitl [Z0 Z1 Z2 Z3]
  · isplitl [Z0]; · iexact Z0
    isplitl [Z1]; · iexact Z1
    isplitl [Z2]; · iexact Z2
    iexact Z3
  isplitl [C0]; · iexact C0
  isplitl [C1]; · iexact C1
  isplitl [C2]; · iexact C2
  iexact C3

theorem O₀_above (c : Dev nD) : Above (O₀ c) 0 :=
  have hd : ∀ k, Above (debt k c 0 0) 0 := fun k => debt_above k c 0 0 0 (by decide) (by decide)
  above_add (above_add (above_add (above_add (above_add (hd 0) (hd 1)) (hd 2)) (hd 3))
    (above_tally _ none 0 1 (by decide) Nat.one_pos)) (above_tally _ none 0 1 (by decide) Nat.one_pos)

/-- The pipeline's own semaphores stand at the lowest level. -/
theorem stage_lv : ∀ (w : Fin cfg0.W) (s : Fin (cfg0.win w).nbuf), lvK (kind (.dma ((cfg0.win w).sem s))) 0 = 0 := by decide +kernel

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    refine mayWait_of_above c _ 0 (by decide) _ 0 (le_of_eq ?_) ?_
    · exact stage_lv w s
    · rcases t with ⟨_ | _, ht⟩
      · exact O₀_above c
      · exact above_zero 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On sixteen devices, for any float values, from any memory with zero counters: every weakly fair execution of @main
    terminates, and every final state has each window's array at its final contents and every semaphore counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund (prods m ρ)) $$ HX with HG
      imodintro
      isplitl [HP] <;> iassumption)
    (hglob := glob (prods m ρ))
    (hA := fun _ _ => rfl) (hpf := fun _ k => k.elim0)
    (X := start (prods m ρ)) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The result array's one block, the whole array, read back is what the body left in the staging buffer. -/
theorem finalA_o (c : Dev nD) : (win0_2.blk (0 : Fin 1)).view.read (Elt F) (finalA m ρ c (2 : Fin 3)) = fin (prods m ρ) := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-! The one block of a window that is the whole array is the array itself. -/

theorem read_x (f : Vec F S4096x256 .f32) : (win0_0.blk (0 : Fin 1)).view.read (Elt F) f = f :=
  Memref.read_access_unit_zero (Elt F) main_arg0 (show (fun a => (win0_0.index (0 : Fin 1)) a * main_arg0.ty.shape.size a) = fun _ => 0 from
    funext fun a => Nat.zero_mul _) (fun a => Nat.le_of_eq (by rw [show (win0_0.index (0 : Fin 1)) a = 0 from rfl]; omega)) f
theorem read_w (f : Vec F S256x2048 .f32) : (win0_1.blk (0 : Fin 1)).view.read (Elt F) f = f :=
  Memref.read_access_unit_zero (Elt F) main_arg1 (show (fun a => (win0_1.index (0 : Fin 1)) a * main_arg1.ty.shape.size a) = fun _ => 0 from
    funext fun a => Nat.zero_mul _) (fun a => Nat.le_of_eq (by rw [show (win0_1.index (0 : Fin 1)) a = 0 from rfl]; omega)) f
theorem read_o (f : Vec F S4096x2048 .f32) : (win0_2.blk (0 : Fin 1)).view.read (Elt F) f = f :=
  Memref.read_access_unit_zero (Elt F) main_v1 (show (fun a => (win0_2.index (0 : Fin 1)) a * main_v1.ty.shape.size a) = fun _ => 0 from
    funext fun a => Nat.zero_mul _) (fun a => Nat.le_of_eq (by rw [show (win0_2.index (0 : Fin 1)) a = 0 from rfl]; omega)) f

/-- Device `c`'s product, of its argument arrays as the memory holds them. -/
theorem prods_eq (c : Dev nD) :
    prods m ρ c = prod (m ((c : Thread nD τ).loc main_arg0)) (m ((c : Thread nD τ).loc main_arg1)) := by
  unfold prods xstg wstg
  rw [read_x, read_w]
  rfl

/-- What every device's result array ends at. -/
def result : Vec F S4096x2048 .f32 :=
  fin fun c => prod (m ((c : Thread nD τ).loc main_arg0)) (m ((c : Thread nD τ).loc main_arg1))

/-- On sixteen devices, for any float values, from any memory with zero counters: every weakly fair execution of @main
    terminates, and in every final state each device's result array holds the sum `result`, its argument arrays hold
    what they held, and every semaphore counter is zero. -/
theorem run_main : θ_run defs (onTc (τ := τ) (main (F := F))) (s₀ m ρ) (fun r =>
    (∀ c : Dev nD, r.2.mem ((c : Thread nD τ).loc main_v1) = result m
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  refine (θ_run defs _ _).mono (fun r h => ⟨fun c => ⟨?_, ?_, ?_⟩, h.2⟩) (run_windows m ρ)
  · refine (h.1 c (2 : Fin 3)).trans ?_
    have ho := finalA_o m ρ c
    rw [read_o, show prods m ρ = _ from funext (prods_eq m ρ)] at ho
    exact ho
  · exact (h.1 c (0 : Fin 3)).trans (finalA_x m ρ c)
  · exact (h.1 c (1 : Fin 3)).trans (finalA_w m ρ c)

end Cert.KernelProof

end
-- ==== Proof.Frames.lean ====
/-
# The frames

The run of `Launch`, its values dropped: at the ideal floats it is the idealized kernel's frame, at bits the kernel's, whose
text is the same.
-/
module

public import proofs.«01_k».proof.Defs
public import proofs.«01_k».proof.Proof.Gen.Kernel
public import proofs.«01_k».proof.Proof.Launch

@[expose] public section

set_option maxRecDepth 20000

noncomputable section

namespace Cert.KernelProof

open Cert.KernelIdeal Cert.KernelIdeal.Gen
open Idealize.ShloMosaic Idealize.ShloMosaic.TcCoe Idealize.SL.Sem

/-- The kernel runs from any memory with zero counters, leaves each device's arguments as they were and every counter at zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0

theorem quiet (F : FTy → Type) [FloatOps F] : Quiet F := fun m ρ _ =>
  (θ_run defs _ _).mono (fun _ h => ⟨fun c => (h.1 c).2, h.2⟩) (run_main m ρ)

theorem quiet_kernel : Quiet Bits = Cert.quiescent_Kernel := by
  sl_kernel_rfl

theorem frame_kernel : Cert.quiescent_Kernel := quiet_kernel ▸ quiet Bits

theorem frame_ideal : Cert.quiescent_KernelIdeal := quiet Ideal

end Cert.KernelProof

end
-- ==== Proof.Value.lean ====
/-
# The value, over the reals

The sum a ring carries, once around, is the sum over the sixteen devices in some order; each device's product sums over
its own 256 positions of the contracted axis; together they sum over all 4096, which is the reference's product.
-/
module

public import proofs.«01_k».proof.Proof.Contents
public import Idealize.ShloMosaic.Lib.Layout
public import Idealize.ShloMosaic.Lib.Pointwise
public import proofs.«01_k».proof.Proof.Gen.ReferenceIdeal

@[expose] public section

set_option maxRecDepth 20000

noncomputable section

namespace Cert.KernelProof

open Cert.KernelIdeal Cert.KernelIdeal.Gen
open Idealize.ShloMosaic Idealize.SL.Sem

/-- A device's product at row `r`, column `l`: the sum over its 256 positions of the contracted axis. -/
theorem prod_apply (x : Vec Ideal S4096x256 .f32) (w : Vec Ideal S256x2048 .f32) (r : Fin 4096) (l : Fin 2048) :
    prod x w (ix2 r l) = ∑ j : Fin 256, x (ix2 r j) * w (ix2 j l) := by
  unfold prod
  pointwise [k0_pay1]
  refine Finset.sum_congr rfl fun j _ => ?_
  have hr : (⟨256 * (r.val / 256) + r.val % 256, by omega⟩ : Fin 4096) = r := Fin.ext (Nat.div_add_mod _ _)
  exact congrArg (fun q => x (ix2 q j) * w (ix2 j l)) hr

/-- After `s` additions a ring's running sum is the sum over the device itself and the `s` devices before it. -/
theorem acc_apply (P : Dev nD → Vec Ideal S4096x2048 .f32) (k : Fin 4) (i : S4096x2048.Idx) :
    ∀ (s : ℕ) (c : Dev nD), acc P k s c i = ∑ t ∈ Finset.range (s + 1), P ((prv k)^[t] c) i
  | 0, c => by simp [acc]
  | s + 1, c => by
    rw [Finset.sum_range_succ', add_comm (Finset.sum _ _)]
    show P c i + acc P k s (prv k c) i = _
    rw [acc_apply P k i s (prv k c)]
    rfl

/-- Going back around a ring sixteen times meets every device once. -/
theorem around_bijective (k : Fin 4) (c : Dev nD) : Function.Bijective fun t : Fin 16 => (prv k)^[t.val] c := by
  refine (Finite.injective_iff_bijective (α := Fin 16)).1 ?_
  revert k c; decide +kernel

/-- The finished result is the sum of the sixteen devices' products. -/
theorem fin_apply (P : Dev nD → Vec Ideal S4096x2048 .f32) (i : S4096x2048.Idx) : fin P i = ∑ c : Dev nD, P c i := by
  unfold fin
  rw [acc_apply, Finset.sum_range]
  exact (around_bijective (rk (segOf i)) (ownr (segOf i))).sum_comp fun c => P c i

/-- The reference's product at row `r`, column `l`. -/
theorem ref_apply (X : FVec Ideal Cert.ReferenceIdeal.S4096x4096 .f32) (W : FVec Ideal Cert.ReferenceIdeal.S4096x2048 .f32) (r : Fin 4096) (l : Fin 2048) :
    Host.dotGeneral Cert.ReferenceIdeal.dot_S4096x4096_S4096x2048_S4096x2048_1_0_0_1_n_n none X W (ix2 r l)
      = ∑ k : Fin 4096, X (ix2 r k) * W (ix2 k l) := by
  pointwise

/-- The kernel's result from the devices' blocks of two arrays is the reference's product of the arrays. -/
theorem value (X : Vec Ideal ⟨2, ![4096, 4096]⟩ .f32) (W : Vec Ideal ⟨2, ![4096, 2048]⟩ .f32) :
    fin (fun c : Dev nD => prod (Layout.block ⟨2, ![4096, 256]⟩ ⟨2, ![4096, 4096]⟩ 1 16 c X) (Layout.block ⟨2, ![256, 2048]⟩ ⟨2, ![4096, 2048]⟩ 0 16 c W))
      = Host.dotGeneral (φ₁ := .f32) (φ₂ := .f32) Cert.ReferenceIdeal.dot_S4096x4096_S4096x2048_S4096x2048_1_0_0_1_n_n none X W := by
  funext i
  obtain ⟨r, l, rfl⟩ : ∃ (r : Fin 4096) (l : Fin 2048), i = ix2 r l := ⟨i 0, i 1, eq_ix2 i⟩
  rw [fin_apply, ref_apply]
  simp only [prod_apply]
  rw [← Fintype.sum_prod_type' (f := fun (c : Fin 16) (j : Fin 256) => _)]
  refine Fintype.sum_equiv (finProdFinEquiv (m := 16) (n := 256)) _ _ fun cj => ?_
  obtain ⟨c, j⟩ := cj
  have hx : (Layout.block ⟨2, ![4096, 256]⟩ ⟨2, ![4096, 4096]⟩ 1 16 c X : Vec Ideal S4096x256 .f32) (ix2 r j) = X (ix2 r (finProdFinEquiv (c, j))) := by
    rw [Layout.block_apply]
    refine congrArg X ((eq_ix2 _).trans ?_)
    refine congrArg₂ ix2 (Fin.ext rfl) (Fin.ext ?_)
    show c.val * 256 + j.val = j.val + 256 * c.val
    omega
  have hw : (Layout.block ⟨2, ![256, 2048]⟩ ⟨2, ![4096, 2048]⟩ 0 16 c W : Vec Ideal S256x2048 .f32) (ix2 j l) = W (ix2 (finProdFinEquiv (c, j)) l) := by
    rw [Layout.block_apply]
    refine congrArg W ((eq_ix2 _).trans ?_)
    refine congrArg₂ ix2 (Fin.ext ?_) (Fin.ext rfl)
    show c.val * 256 + j.val = j.val + 256 * c.val
    omega
  exact congrArg₂ (· * ·) hx hw

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs and leaves its arguments as they were; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device's result is the reference's product of the whole arrays. -/
theorem algebraic : Cert.algebraic_KernelIdeal_ReferenceIdeal := by
  intro m ρ m' ρ' _ hagree
  have hv := Cert.KernelProof.value
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
  have hr := (congrArg Cert.KernelProof.fin (funext fun c => congrArg₂ Cert.KernelProof.prod (hagree c).1 (hagree c).2)).trans hv
  exact ⟨_, (θ_run Cert.KernelIdeal.defs _ _).mono (fun _ h c => ⟨((h.1 c).1).trans hr, (h.1 c).2⟩)
      (Cert.KernelProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.KernelProof.frame_kernel, Cert.KernelProof.frame_ideal, frame_reference, trivial, algebraic⟩

end Cert.Proof

end
